-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)) (v5 : (c : Dev Cert.Kernel5Ideal.nD) → Buf (Elt Ideal) ((c.tc : Thread Cert.Kernel5Ideal.nD Cert.Kernel5Ideal.τ).loc Cert.Kernel5Ideal.main_v24_5)) (v6 : (c : Dev Cert.Kernel5Ideal.nD) → Buf (Elt Ideal) ((c.tc : Thread Cert.Kernel5Ideal.nD Cert.Kernel5Ideal.τ).loc Cert.Kernel5Ideal.main_v24_6)) (v7 : (c : Dev Cert.Kernel5Ideal.nD) → Buf (Elt Ideal) ((c.tc : Thread Cert.Kernel5Ideal.nD Cert.Kernel5Ideal.τ).loc Cert.Kernel5Ideal.main_v24_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_v24_5) = v5 c
          ∧ r.2.mem ((c.tc : Thread Cert.Kernel5Ideal.nD Cert.Kernel5Ideal.τ).loc Cert.Kernel5Ideal.main_v24_6) = v6 c
          ∧ r.2.mem ((c.tc : Thread Cert.Kernel5Ideal.nD Cert.Kernel5Ideal.τ).loc Cert.Kernel5Ideal.main_v24_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_v73) = v2 c
          ∧ r.2.mem ((c.tc : Thread Cert.Reference5Ideal.nD Cert.Reference5Ideal.τ).loc Cert.Reference5Ideal.main_v75) = v3 c
          ∧ r.2.mem ((c.tc : Thread Cert.Reference5Ideal.nD Cert.Reference5Ideal.τ).loc Cert.Reference5Ideal.main_v77) = v4 c
          ∧ r.2.mem ((c.tc : Thread Cert.Reference5Ideal.nD Cert.Reference5Ideal.τ).loc Cert.Reference5Ideal.main_v78) = v5 c
          ∧ r.2.mem ((c.tc : Thread Cert.Reference5Ideal.nD Cert.Reference5Ideal.τ).loc Cert.Reference5Ideal.main_v79) = v6 c
          ∧ r.2.mem ((c.tc : Thread Cert.Reference5Ideal.nD Cert.Reference5Ideal.τ).loc Cert.Reference5Ideal.main_v82) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8x8192x512 : Shape := ⟨3, ![8, 8192, 512]⟩
abbrev S8x8192x128 : Shape := ⟨3, ![8, 8192, 128]⟩
abbrev S32x8 : Shape := ⟨2, ![32, 8]⟩
abbrev S8 : Shape := ⟨1, ![8]⟩
abbrev S_ : Shape := ⟨0, ![]⟩

class Facts : Prop where
  bcast_S_S8x8192x512 : S_.BroadcastsInDim S8x8192x512 (![] : Fin 0 → Fin S8x8192x512.rank)
  bcast_S_S8x8192x128 : S_.BroadcastsInDim S8x8192x128 (![] : Fin 0 → Fin S8x8192x128.rank)
  bcast_S_S32x8 : S_.BroadcastsInDim S32x8 (![] : Fin 0 → Fin S32x8.rank)
  bcast_S_S8 : S_.BroadcastsInDim S8 (![] : Fin 0 → Fin S8.rank)

variable [Facts]

def fn {F : FTy → Type} [FloatOps F] (main_arg0 : FVec F S8x8192x512 .bf16) (main_arg1 : FVec F S8x8192x128 .bf16) (main_arg2 : FVec F S8x8192x128 .bf16) (main_arg3 : FVec F S32x8 .f32) (main_arg4 : FVec F S8 .f32) : IVec S8x8192x512 1 × IVec S8x8192x128 1 × IVec S32x8 1 × IVec S8 1 :=
  let main_v0 : FVec F S8x8192x512 .bf16 := Host.absf main_arg0
  let main_cst : FVec F S_ .bf16 := constant S_ .bf16 0x7F80#16
  let main_v1 : FVec F S8x8192x512 .bf16 := broadcastInDim S8x8192x512 ![] bcast_S_S8x8192x512 main_cst
  let main_v2 : IVec S8x8192x512 1 := cmpf .olt main_v0 main_v1
  let main_v3 : FVec F S8x8192x128 .bf16 := Host.absf main_arg1
  let main_cst_0 : FVec F S_ .bf16 := constant S_ .bf16 0x7F80#16
  let main_v4 : FVec F S8x8192x128 .bf16 := broadcastInDim S8x8192x128 ![] bcast_S_S8x8192x128 main_cst_0
  let main_v5 : IVec S8x8192x128 1 := cmpf .olt main_v3 main_v4
  let main_v6 : FVec F S32x8 .f32 := Host.absf main_arg3
  let main_cst_1 : FVec F S_ .f32 := constant S_ .f32 0x7F800000#32
  let main_v7 : FVec F S32x8 .f32 := broadcastInDim S32x8 ![] bcast_S_S32x8 main_cst_1
  let main_v8 : IVec S32x8 1 := cmpf .olt main_v6 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Pre_finite3.lean ====
abbrev S8x8192x1024 : Shape := ⟨3, ![8, 8192, 1024]⟩
abbrev S8x8192x512 : Shape := ⟨3, ![8, 8192, 512]⟩
abbrev S64 : Shape := ⟨1, ![64]⟩
abbrev S512x1024 : Shape := ⟨2, ![512, 1024]⟩
abbrev S1024x2048 : Shape := ⟨2, ![1024, 2048]⟩
abbrev S2048 : Shape := ⟨1, ![2048]⟩
abbrev S1024x1024 : Shape := ⟨2, ![1024, 1024]⟩
abbrev S1024 : Shape := ⟨1, ![1024]⟩
abbrev S_ : Shape := ⟨0, ![]⟩

class Facts : Prop where
  bcast_S_S8x8192x512 : S_.BroadcastsInDim S8x8192x512 (![] : Fin 0 → Fin S8x8192x512.rank)

variable [Facts]

def fn {F : FTy → Type} [FloatOps F] (main_arg0 : FVec F S8x8192x1024 .f32) (main_arg1 : FVec F S8x8192x512 .bf16) (main_arg2 : FVec F S8x8192x512 .f32) (main_arg3 : FVec F S8x8192x512 .f32) (main_arg4 : FVec F S8x8192x512 .bf16) (main_arg5 : FVec F S64 .f32) (main_arg6 : FVec F S512x1024 .f32) (main_arg7 : FVec F S512x1024 .f32) (main_arg8 : FVec F S1024x2048 .f32) (main_arg9 : FVec F S2048 .f32) (main_arg10 : FVec F S1024x1024 .f32) (main_arg11 : FVec F S1024 .f32) (main_arg12 : FVec F S1024 .f32) : IVec S8x8192x512 1 × IVec S8x8192x512 1 :=
  let main_v0 : FVec F S8x8192x512 .f32 := Host.absf main_arg2
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_v3 : FVec F S8x8192x512 .f32 := Host.absf main_arg3
  let main_cst_0 : FVec F S_ .f32 := constant S_ .f32 0x7F800000#32
  let main_v4 : FVec F S8x8192x512 .f32 := broadcastInDim S8x8192x512 ![] bcast_S_S8x8192x512 main_cst_0
  let main_v5 : IVec S8x8192x512 1 := cmpf .olt main_v3 main_v4
  (main_v2, main_v5)
-- ==== Pre_finite5.lean ====
abbrev S8x8192x1024 : Shape := ⟨3, ![8, 8192, 1024]⟩
abbrev S1024x2848 : Shape := ⟨2, ![1024, 2848]⟩
abbrev S3x1536 : Shape := ⟨2, ![3, 1536]⟩
abbrev S2x8 : Shape := ⟨2, ![2, 8]⟩
abbrev S_ : Shape := ⟨0, ![]⟩

class Facts : Prop where
  bcast_S_S8x8192x1024 : S_.BroadcastsInDim S8x8192x1024 (![] : Fin 0 → Fin S8x8192x1024.rank)
  bcast_S_S1024x2848 : S_.BroadcastsInDim S1024x2848 (![] : Fin 0 → Fin S1024x2848.rank)
  bcast_S_S3x1536 : S_.BroadcastsInDim S3x1536 (![] : Fin 0 → Fin S3x1536.rank)

variable [Facts]

def fn {F : FTy → Type} [FloatOps F] (main_arg0 : FVec F S8x8192x1024 .f32) (main_arg1 : FVec F S1024x2848 .f32) (main_arg2 : FVec F S3x1536 .f32) (main_arg3 : FVec F S2x8 .f32) (main_arg4 : FVec F S2x8 .f32) : IVec S8x8192x1024 1 × IVec S1024x2848 1 × IVec S3x1536 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S1024x2848 .f32 := Host.absf main_arg1
  let main_cst_0 : FVec F S_ .f32 := constant S_ .f32 0x7F800000#32
  let main_v4 : FVec F S1024x2848 .f32 := broadcastInDim S1024x2848 ![] bcast_S_S1024x2848 main_cst_0
  let main_v5 : IVec S1024x2848 1 := cmpf .olt main_v3 main_v4
  let main_v6 : FVec F S3x1536 .f32 := Host.absf main_arg2
  let main_cst_1 : FVec F S_ .f32 := constant S_ .f32 0x7F800000#32
  let main_v7 : FVec F S3x1536 .f32 := broadcastInDim S3x1536 ![] bcast_S_S3x1536 main_cst_1
  let main_v8 : IVec S3x1536 1 := cmpf .olt main_v6 main_v7
  (main_v2, main_v5, main_v8)
-- ==== Kernel.lean ====
abbrev S8x8192x512 : Shape := ⟨3, ![8, 8192, 512]⟩
abbrev S8x8192x128 : Shape := ⟨3, ![8, 8192, 128]⟩
abbrev S32x8 : Shape := ⟨2, ![32, 8]⟩
abbrev S8 : Shape := ⟨1, ![8]⟩
abbrev S128x384 : Shape := ⟨2, ![128, 384]⟩
abbrev S_ : Shape := ⟨0, ![]⟩
abbrev S128x384x1 : Shape := ⟨3, ![128, 384, 1]⟩
abbrev S128x384x8 : Shape := ⟨3, ![128, 384, 8]⟩
abbrev S8x128x384 : Shape := ⟨3, ![8, 128, 384]⟩
abbrev S1x128x384 : Shape := ⟨3, ![1, 128, 384]⟩
abbrev S1x512x512 : Shape := ⟨3, ![1, 512, 512]⟩
abbrev S1x128x128 : Shape := ⟨3, ![1, 128, 128]⟩
abbrev S1x512x128 : Shape := ⟨3, ![1, 512, 128]⟩
abbrev S128x128 : Shape := ⟨2, ![128, 128]⟩
abbrev S512x128 : Shape := ⟨2, ![512, 128]⟩
abbrev S768x128 : Shape := ⟨2, ![768, 128]⟩
abbrev S384x64 : Shape := ⟨2, ![384, 64]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S1 : Shape := ⟨1, ![1]⟩

abbrev nBuf : Space → Nat
  | .hbm => 22
  | .vmem => 17
  | .smem => 1
  | _ => 0

abbrev bufTy : (tb : Table) → Fin (tcTables nBuf tb) → BufTy
  | .hbm, ⟨0, _⟩ => ⟨S8x8192x512, .bf16⟩
  | .hbm, ⟨1, _⟩ => ⟨S8x8192x128, .bf16⟩
  | .hbm, ⟨2, _⟩ => ⟨S8x8192x128, .bf16⟩
  | .hbm, ⟨3, _⟩ => ⟨S32x8, .f32⟩
  | .hbm, ⟨4, _⟩ => ⟨S8, .f32⟩
  | .hbm, ⟨5, _⟩ => ⟨S128x384, .i32⟩
  | .hbm, ⟨6, _⟩ => ⟨S128x384, .i1⟩
  | .hbm, ⟨7, _⟩ => ⟨S128x384, .i1⟩
  | .hbm, ⟨8, _⟩ => ⟨S_, .i32⟩
  | .hbm, ⟨9, _⟩ => ⟨S128x384, .i32⟩
  | .hbm, ⟨10, _⟩ => ⟨S128x384, .i32⟩
  | .hbm, ⟨11, _⟩ => ⟨S128x384, .i32⟩
  | .hbm, ⟨12, _⟩ => ⟨S128x384x1, .i32⟩
  | .hbm, ⟨13, _⟩ => ⟨S128x384x8, .f32⟩
  | .hbm, ⟨14, _⟩ => ⟨S8x128x384, .f32⟩
  | .hbm, ⟨15, _⟩ => ⟨S1x128x384, .i1⟩
  | .hbm, ⟨16, _⟩ => ⟨S_, .f32⟩
  | .hbm, ⟨17, _⟩ => ⟨S_, .f32⟩
  | .hbm, ⟨18, _⟩ => ⟨S8x128x384, .i1⟩
  | .hbm, ⟨19, _⟩ => ⟨S8x128x384, .f32⟩
  | .hbm, ⟨20, _⟩ => ⟨S8x128x384, .f32⟩
  | .hbm, ⟨21, _⟩ => ⟨S8x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x128x128, .bf16⟩
  | .local _ .vmem, ⟨13, _⟩ => ⟨S1x128x128, .bf16⟩
  | .local _ .vmem, ⟨14, _⟩ => ⟨S8x128x384, .f32⟩
  | .local _ .vmem, ⟨15, _⟩ => ⟨S1x512x512, .bf16⟩
  | .local _ .vmem, ⟨16, _⟩ => ⟨S1x512x512, .bf16⟩
  | .local _ .smem, ⟨0, _⟩ => ⟨S8, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v7 : Ref sig .tc := ⟨.hbm, 20, rfl⟩
abbrev main_v8 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8192x512 : Shape := ⟨3, ![8, 8192, 512]⟩
abbrev S8x8192x128 : Shape := ⟨3, ![8, 8192, 128]⟩
abbrev S32x8 : Shape := ⟨2, ![32, 8]⟩
abbrev S8 : Shape := ⟨1, ![8]⟩
abbrev S128x384 : Shape := ⟨2, ![128, 384]⟩
abbrev S8x64x128x2x4x64 : Shape := ⟨6, ![8, 64, 128, 2, 4, 64]⟩
abbrev S_ : Shape := ⟨0, ![]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S64 : Shape := ⟨1, ![64]⟩
abbrev S64x1 : Shape := ⟨2, ![64, 1]⟩
abbrev S384 : Shape := ⟨1, ![384]⟩
abbrev S1x384 : Shape := ⟨2, ![1, 384]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S8x8192x2x64 : Shape := ⟨4, ![8, 8192, 2, 64]⟩
abbrev S8x8448x2x64 : Shape := ⟨4, ![8, 8448, 2, 64]⟩
abbrev S8x66x128x2x64 : Shape := ⟨5, ![8, 66, 128, 2, 64]⟩
abbrev S8x64x128x2x64 : Shape := ⟨5, ![8, 64, 128, 2, 64]⟩
abbrev S8x64x384x2x64 : Shape := ⟨5, ![8, 64, 384, 2, 64]⟩
abbrev S8x64x2x384x128x4 : Shape := ⟨6, ![8, 64, 2, 384, 128, 4]⟩
abbrev S8x64x2x4x128x384 : Shape := ⟨6, ![8, 64, 2, 4, 128, 384]⟩
abbrev S1x1x2x4x128x384 : Shape := ⟨6, ![1, 1, 2, 4, 128, 384]⟩
abbrev S1x64x1x1x128x384 : Shape := ⟨6, ![1, 64, 1, 1, 128, 384]⟩
abbrev S2x4x1 : Shape := ⟨3, ![2, 4, 1]⟩
abbrev S8x64x2x4x128 : Shape := ⟨5, ![8, 64, 2, 4, 128]⟩
abbrev S1x1x2x4x1 : Shape := ⟨5, ![1, 1, 2, 4, 1]⟩
abbrev S8x64x2x4x128x1 : Shape := ⟨6, ![8, 64, 2, 4, 128, 1]⟩
abbrev S8x64x2x64x4x128 : Shape := ⟨6, ![8, 64, 2, 64, 4, 128]⟩

abbrev nBuf : Space → Nat
  | .hbm => 98
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x128, .bf16⟩
  | .hbm, ⟨2, _⟩ => ⟨S8x8192x128, .bf16⟩
  | .hbm, ⟨3, _⟩ => ⟨S32x8, .f32⟩
  | .hbm, ⟨4, _⟩ => ⟨S8, .f32⟩
  | .hbm, ⟨5, _⟩ => ⟨S128x384, .i32⟩
  | .hbm, ⟨6, _⟩ => ⟨S128x384, .i1⟩
  | .hbm, ⟨7, _⟩ => ⟨S128x384, .i1⟩
  | .hbm, ⟨8, _⟩ => ⟨S8x8192x512, .f32⟩
  | .hbm, ⟨9, _⟩ => ⟨S8x64x128x2x4x64, .f32⟩
  | .hbm, ⟨10, _⟩ => ⟨S_, .i32⟩
  | .hbm, ⟨11, _⟩ => ⟨S128x384, .i32⟩
  | .hbm, ⟨12, _⟩ => ⟨S128x384, .i32⟩
  | .hbm, ⟨13, _⟩ => ⟨S128x384, .i32⟩
  | .hbm, ⟨14, _⟩ => ⟨S128x384x1, .i32⟩
  | .hbm, ⟨15, _⟩ => ⟨S128x384x8, .f32⟩
  | .hbm, ⟨16, _⟩ => ⟨S8x128x384, .f32⟩
  | .hbm, ⟨17, _⟩ => ⟨S2x4x128x384, .f32⟩
  | .hbm, ⟨18, _⟩ => ⟨S64, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S384, .i32⟩
  | .hbm, ⟨24, _⟩ => ⟨S1x384, .i32⟩
  | .hbm, ⟨25, _⟩ => ⟨S64x384, .i32⟩
  | .hbm, ⟨26, _⟩ => ⟨S64x384, .i32⟩
  | .hbm, ⟨27, _⟩ => ⟨S64x384, .i32⟩
  | .hbm, ⟨28, _⟩ => ⟨S_, .i32⟩
  | .hbm, ⟨29, _⟩ => ⟨S64x384, .i32⟩
  | .hbm, ⟨30, _⟩ => ⟨S64x384, .i32⟩
  | .hbm, ⟨31, _⟩ => ⟨S_, .i32⟩
  | .hbm, ⟨32, _⟩ => ⟨S64x384, .i32⟩
  | .hbm, ⟨33, _⟩ => ⟨S64x384, .i1⟩
  | .hbm, ⟨34, _⟩ => ⟨S_, .i32⟩
  | .hbm, ⟨35, _⟩ => ⟨S64x384, .i32⟩
  | .hbm, ⟨36, _⟩ => ⟨S64x384, .i1⟩
  | .hbm, ⟨37, _⟩ => ⟨S64x384, .i1⟩
  | .hbm, ⟨38, _⟩ => ⟨S1x128x384, .i1⟩
  | .hbm, ⟨39, _⟩ => ⟨S64x1x384, .i1⟩
  | .hbm, ⟨40, _⟩ => ⟨S64x128x384, .i1⟩
  | .hbm, ⟨41, _⟩ => ⟨S64x128x384, .i1⟩
  | .hbm, ⟨42, _⟩ => ⟨S64x128x384, .i1⟩
  | .hbm, ⟨43, _⟩ => ⟨S8x8192x128, .f32⟩
  | .hbm, ⟨44, _⟩ => ⟨S8x8192x2x64, .f32⟩
  | .hbm, ⟨45, _⟩ => ⟨S_, .i32⟩
  | .hbm, ⟨46, _⟩ => ⟨S_, .f32⟩
  | .hbm, ⟨47, _⟩ => ⟨S8x8448x2x64, .f32⟩
  | .hbm, ⟨48, _⟩ => ⟨S8x66x128x2x64, .f32⟩
  | .hbm, ⟨49, _⟩ => ⟨S8x64x128x2x64, .f32⟩
  | .hbm, ⟨50, _⟩ => ⟨S8x64x128x2x64, .f32⟩
  | .hbm, ⟨51, _⟩ => ⟨S8x64x128x2x64, .f32⟩
  | .hbm, ⟨52, _⟩ => ⟨S8x64x384x2x64, .f32⟩
  | .hbm, ⟨53, _⟩ => ⟨S8x8192x128, .f32⟩
  | .hbm, ⟨54, _⟩ => ⟨S8x8192x2x64, .f32⟩
  | .hbm, ⟨55, _⟩ => ⟨S_, .i32⟩
  | .hbm, ⟨56, _⟩ => ⟨S_, .f32⟩
  | .hbm, ⟨57, _⟩ => ⟨S8x8448x2x64, .f32⟩
  | .hbm, ⟨58, _⟩ => ⟨S8x66x128x2x64, .f32⟩
  | .hbm, ⟨59, _⟩ => ⟨S8x64x128x2x64, .f32⟩
  | .hbm, ⟨60, _⟩ => ⟨S8x64x128x2x64, .f32⟩
  | .hbm, ⟨61, _⟩ => ⟨S8x64x128x2x64, .f32⟩
  | .hbm, ⟨62, _⟩ => ⟨S8x64x384x2x64, .f32⟩
  | .hbm, ⟨63, _⟩ => ⟨S8x64x2x384x128x4, .f32⟩
  | .hbm, ⟨64, _⟩ => ⟨S8x64x2x4x128x384, .f32⟩
  | .hbm, ⟨65, _⟩ => ⟨S1x1x2x4x128x384, .f32⟩
  | .hbm, ⟨66, _⟩ => ⟨S8x64x2x4x128x384, .f32⟩
  | .hbm, ⟨67, _⟩ => ⟨S8x64x2x4x128x384, .f32⟩
  | .hbm, ⟨68, _⟩ => ⟨S1x64x1x1x128x384, .i1⟩
  | .hbm, ⟨69, _⟩ => ⟨S_, .f32⟩
  | .hbm, ⟨70, _⟩ => ⟨S_, .f32⟩
  | .hbm, ⟨71, _⟩ => ⟨S8x64x2x4x128x384, .i1⟩
  | .hbm, ⟨72, _⟩ => ⟨S8x64x2x4x128x384, .f32⟩
  | .hbm, ⟨73, _⟩ => ⟨S8x64x2x4x128x384, .f32⟩
  | .hbm, ⟨74, _⟩ => ⟨S2x4x1, .f32⟩
  | .hbm, ⟨75, _⟩ => ⟨S_, .f32⟩
  | .hbm, ⟨76, _⟩ => ⟨S8x64x2x4x128, .f32⟩
  | .hbm, ⟨77, _⟩ => ⟨S1x1x2x4x1, .f32⟩
  | .hbm, ⟨78, _⟩ => ⟨S8x64x2x4x128, .f32⟩
  | .hbm, ⟨79, _⟩ => ⟨S8x64x2x4x128, .f32⟩
  | .hbm, ⟨80, _⟩ => ⟨S8x64x2x4x128x1, .f32⟩
  | .hbm, ⟨81, _⟩ => ⟨S8x64x2x4x128x384, .f32⟩
  | .hbm, ⟨82, _⟩ => ⟨S8x64x2x4x128x384, .f32⟩
  | .hbm, ⟨83, _⟩ => ⟨S8x64x2x4x128x384, .f32⟩
  | .hbm, ⟨84, _⟩ => ⟨S_, .f32⟩
  | .hbm, ⟨85, _⟩ => ⟨S8x64x2x4x128, .f32⟩
  | .hbm, ⟨86, _⟩ => ⟨S1x1x2x4x1, .f32⟩
  | .hbm, ⟨87, _⟩ => ⟨S8x64x2x4x128, .f32⟩
  | .hbm, ⟨88, _⟩ => ⟨S8x64x2x4x128, .f32⟩
  | .hbm, ⟨89, _⟩ => ⟨S8x64x2x4x128, .f32⟩
  | .hbm, ⟨90, _⟩ => ⟨S8x64x2x4x128, .f32⟩
  | .hbm, ⟨91, _⟩ => ⟨S8x64x2x4x128x1, .f32⟩
  | .hbm, ⟨92, _⟩ => ⟨S8x64x2x4x128x384, .f32⟩
  | .hbm, ⟨93, _⟩ => ⟨S8x64x2x4x128x384, .f32⟩
  | .hbm, ⟨94, _⟩ => ⟨S8x64x2x64x4x128, .f32⟩
  | .hbm, ⟨95, _⟩ => ⟨S8x64x128x2x4x64, .f32⟩
  | .hbm, ⟨96, _⟩ => ⟨S8x8192x512, .f32⟩
  | .hbm, ⟨97, _⟩ => ⟨S8x8192x512, .bf16⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_c_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024x2816 : Shape := ⟨2, ![1024, 2816]⟩
abbrev S2816x1024 : Shape := ⟨2, ![2816, 1024]⟩
abbrev S1024 : Shape := ⟨1, ![1024]⟩
abbrev S65536x1024 : Shape := ⟨2, ![65536, 1024]⟩
abbrev S1x1024 : Shape := ⟨2, ![1, 1024]⟩
abbrev S1024x1024 : Shape := ⟨2, ![1024, 1024]⟩
abbrev S1024x256 : Shape := ⟨2, ![1024, 256]⟩
abbrev S1024x1 : Shape := ⟨2, ![1024, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S65536x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x8192x1024 : Shape := ⟨3, ![8, 8192, 1024]⟩
abbrev S1024x2816 : Shape := ⟨2, ![1024, 2816]⟩
abbrev S2816x1024 : Shape := ⟨2, ![2816, 1024]⟩
abbrev S1024 : Shape := ⟨1, ![1024]⟩
abbrev S8x8192x2816 : Shape := ⟨3, ![8, 8192, 2816]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S8x8192x2816, .f32⟩
  | .hbm, ⟨7, _⟩ => ⟨S8x8192x2816, .f32⟩
  | .hbm, ⟨8, _⟩ => ⟨S8x8192x2816, .f32⟩
  | .hbm, ⟨9, _⟩ => ⟨S_, .f32⟩
  | .hbm, ⟨10, _⟩ => ⟨S8x8192x2816, .f32⟩
  | .hbm, ⟨11, _⟩ => ⟨S8x8192x2816, .f32⟩
  | .hbm, ⟨12, _⟩ => ⟨S_, .f32⟩
  | .hbm, ⟨13, _⟩ => ⟨S8x8192x2816, .f32⟩
  | .hbm, ⟨14, _⟩ => ⟨S8x8192x2816, .f32⟩
  | .hbm, ⟨15, _⟩ => ⟨S8x8192x2816, .f32⟩
  | .hbm, ⟨16, _⟩ => ⟨S8x8192x2816, .f32⟩
  | .hbm, ⟨17, _⟩ => ⟨S8x8192x2816, .f32⟩
  | .hbm, ⟨18, _⟩ => ⟨S8x8192x1024, .f32⟩
  | .hbm, ⟨19, _⟩ => ⟨S_, .f32⟩
  | .hbm, ⟨20, _⟩ => ⟨S8x8192x1024, .f32⟩
  | .hbm, ⟨21, _⟩ => ⟨S8x8192x1024, .f32⟩
  | .hbm, ⟨22, _⟩ => ⟨S_, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S_, .f32⟩
  | .hbm, ⟨30, _⟩ => ⟨S8x8192x1, .f32⟩
  | .hbm, ⟨31, _⟩ => ⟨S8x8192x1, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S_, .f32⟩
  | .hbm, ⟨39, _⟩ => ⟨S8x8192x1, .f32⟩
  | .hbm, ⟨40, _⟩ => ⟨S8x8192x1, .f32⟩
  | .hbm, ⟨41, _⟩ => ⟨S8x8192x1024, .f32⟩
  | .hbm, ⟨42, _⟩ => ⟨S8x8192x1024, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x8192x1, .f32⟩
  | .hbm, ⟨47, _⟩ => ⟨S8x8192x1024, .f32⟩
  | .hbm, ⟨48, _⟩ => ⟨S8x8192x1024, .f32⟩
  | .hbm, ⟨49, _⟩ => ⟨S1x1x1024, .f32⟩
  | .hbm, ⟨50, _⟩ => ⟨S8x8192x1024, .f32⟩
  | .hbm, ⟨51, _⟩ => ⟨S8x8192x1024, .f32⟩
  | .hbm, ⟨52, _⟩ => ⟨S1x1x1024, .f32⟩
  | .hbm, ⟨53, _⟩ => ⟨S8x8192x1024, .f32⟩
  | .hbm, ⟨54, _⟩ => ⟨S8x8192x1024, .f32⟩
  | .hbm, ⟨55, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S64 : Shape := ⟨1, ![64]⟩
abbrev S512x1024 : Shape := ⟨2, ![512, 1024]⟩
abbrev S1024x2048 : Shape := ⟨2, ![1024, 2048]⟩
abbrev S2048 : Shape := ⟨1, ![2048]⟩
abbrev S1024x1024 : Shape := ⟨2, ![1024, 1024]⟩
abbrev S1024 : Shape := ⟨1, ![1024]⟩
abbrev S256x256 : Shape := ⟨2, ![256, 256]⟩
abbrev S65536x1024 : Shape := ⟨2, ![65536, 1024]⟩
abbrev S65536x512 : Shape := ⟨2, ![65536, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x2048 : Shape := ⟨2, ![1, 2048]⟩
abbrev S1x1024 : Shape := ⟨2, ![1, 1024]⟩
abbrev S512x512 : Shape := ⟨2, ![512, 512]⟩
abbrev S512x256 : Shape := ⟨2, ![512, 256]⟩
abbrev S1024x256 : Shape := ⟨2, ![1024, 256]⟩
abbrev S1x256 : Shape := ⟨2, ![1, 256]⟩
abbrev S512x1 : Shape := ⟨2, ![512, 1]⟩

abbrev nBuf : Space → Nat
  | .hbm => 31
  | .vmem => 22
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .f32⟩
  | .hbm, ⟨3, _⟩ => ⟨S8x8192x512, .f32⟩
  | .hbm, ⟨4, _⟩ => ⟨S8x8192x512, .bf16⟩
  | .hbm, ⟨5, _⟩ => ⟨S64, .f32⟩
  | .hbm, ⟨6, _⟩ => ⟨S512x1024, .f32⟩
  | .hbm, ⟨7, _⟩ => ⟨S512x1024, .f32⟩
  | .hbm, ⟨8, _⟩ => ⟨S1024x2048, .f32⟩
  | .hbm, ⟨9, _⟩ => ⟨S2048, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S256x256, .bf16⟩
  | .hbm, ⟨14, _⟩ => ⟨S65536x1024, .f32⟩
  | .hbm, ⟨15, _⟩ => ⟨S65536x512, .bf16⟩
  | .hbm, ⟨16, _⟩ => ⟨S65536x512, .f32⟩
  | .hbm, ⟨17, _⟩ => ⟨S65536x512, .f32⟩
  | .hbm, ⟨18, _⟩ => ⟨S65536x512, .bf16⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S512x1024, .bf16⟩
  | .hbm, ⟨24, _⟩ => ⟨S512x1024, .bf16⟩
  | .hbm, ⟨25, _⟩ => ⟨S1024x2048, .bf16⟩
  | .hbm, ⟨26, _⟩ => ⟨S1x2048, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1024x2048, .bf16⟩
  | .local _ .vmem, ⟨14, _⟩ => ⟨S1x2048, .f32⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x256, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x8192x1024 : Shape := ⟨3, ![8, 8192, 1024]⟩
abbrev S8x8192x512 : Shape := ⟨3, ![8, 8192, 512]⟩
abbrev S64 : Shape := ⟨1, ![64]⟩
abbrev S512x1024 : Shape := ⟨2, ![512, 1024]⟩
abbrev S1024x2048 : Shape := ⟨2, ![1024, 2048]⟩
abbrev S2048 : Shape := ⟨1, ![2048]⟩
abbrev S1024x1024 : Shape := ⟨2, ![1024, 1024]⟩
abbrev S1024 : Shape := ⟨1, ![1024]⟩
abbrev S8x8192x8x64 : Shape := ⟨4, ![8, 8192, 8, 64]⟩
abbrev S_ : Shape := ⟨0, ![]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x2048 : Shape := ⟨3, ![8, 8192, 2048]⟩
abbrev S1x1x2048 : Shape := ⟨3, ![1, 1, 2048]⟩
abbrev S8x8192 : Shape := ⟨2, ![8, 8192]⟩
abbrev S8x8192x1 : Shape := ⟨3, ![8, 8192, 1]⟩
abbrev S1x1x1024 : Shape := ⟨3, ![1, 1, 1024]⟩
abbrev S65536x1024 : Shape := ⟨2, ![65536, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .f32⟩
  | .hbm, ⟨3, _⟩ => ⟨S8x8192x512, .f32⟩
  | .hbm, ⟨4, _⟩ => ⟨S8x8192x512, .bf16⟩
  | .hbm, ⟨5, _⟩ => ⟨S64, .f32⟩
  | .hbm, ⟨6, _⟩ => ⟨S512x1024, .f32⟩
  | .hbm, ⟨7, _⟩ => ⟨S512x1024, .f32⟩
  | .hbm, ⟨8, _⟩ => ⟨S1024x2048, .f32⟩
  | .hbm, ⟨9, _⟩ => ⟨S2048, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S8x8192x512, .f32⟩
  | .hbm, ⟨14, _⟩ => ⟨S8x8192x1024, .f32⟩
  | .hbm, ⟨15, _⟩ => ⟨S8x8192x512, .f32⟩
  | .hbm, ⟨16, _⟩ => ⟨S8x8192x8x64, .f32⟩
  | .hbm, ⟨17, _⟩ => ⟨S8x8192x8x64, .f32⟩
  | .hbm, ⟨18, _⟩ => ⟨S_, .f32⟩
  | .hbm, ⟨19, _⟩ => ⟨S8x8192x8, .f32⟩
  | .hbm, ⟨20, _⟩ => ⟨S8x8192x8x1, .f32⟩
  | .hbm, ⟨21, _⟩ => ⟨S_, .f32⟩
  | .hbm, ⟨22, _⟩ => ⟨S8x8192x8x1, .f32⟩
  | .hbm, ⟨23, _⟩ => ⟨S8x8192x8x1, .f32⟩
  | .hbm, ⟨24, _⟩ => ⟨S_, .f32⟩
  | .hbm, ⟨25, _⟩ => ⟨S8x8192x8x1, .f32⟩
  | .hbm, ⟨26, _⟩ => ⟨S8x8192x8x1, .f32⟩
  | .hbm, ⟨27, _⟩ => ⟨S8x8192x8x1, .f32⟩
  | .hbm, ⟨28, _⟩ => ⟨S8x8192x8x64, .f32⟩
  | .hbm, ⟨29, _⟩ => ⟨S8x8192x8x64, .f32⟩
  | .hbm, ⟨30, _⟩ => ⟨S1x1x1x64, .f32⟩
  | .hbm, ⟨31, _⟩ => ⟨S8x8192x8x64, .f32⟩
  | .hbm, ⟨32, _⟩ => ⟨S8x8192x8x64, .f32⟩
  | .hbm, ⟨33, _⟩ => ⟨S8x8192x512, .f32⟩
  | .hbm, ⟨34, _⟩ => ⟨S8x8192x8x64, .f32⟩
  | .hbm, ⟨35, _⟩ => ⟨S8x8192x8x64, .f32⟩
  | .hbm, ⟨36, _⟩ => ⟨S8x8192x8x64, .f32⟩
  | .hbm, ⟨37, _⟩ => ⟨S_, .f32⟩
  | .hbm, ⟨38, _⟩ => ⟨S8x8192x8x64, .f32⟩
  | .hbm, ⟨39, _⟩ => ⟨S8x8192x8x64, .f32⟩
  | .hbm, ⟨40, _⟩ => ⟨S_, .f32⟩
  | .hbm, ⟨41, _⟩ => ⟨S8x8192x8x64, .f32⟩
  | .hbm, ⟨42, _⟩ => ⟨S8x8192x8x64, .f32⟩
  | .hbm, ⟨43, _⟩ => ⟨S8x8192x8x64, .f32⟩
  | .hbm, ⟨44, _⟩ => ⟨S8x8192x8x64, .f32⟩
  | .hbm, ⟨45, _⟩ => ⟨S8x8192x512, .f32⟩
  | .hbm, ⟨46, _⟩ => ⟨S8x8192x1024, .f32⟩
  | .hbm, ⟨47, _⟩ => ⟨S8x8192x2048, .f32⟩
  | .hbm, ⟨48, _⟩ => ⟨S1x1x2048, .f32⟩
  | .hbm, ⟨49, _⟩ => ⟨S8x8192x2048, .f32⟩
  | .hbm, ⟨50, _⟩ => ⟨S8x8192x2048, .f32⟩
  | .hbm, ⟨51, _⟩ => ⟨S8x8192x2048, .f32⟩
  | .hbm, ⟨52, _⟩ => ⟨S8x8192x2048, .f32⟩
  | .hbm, ⟨53, _⟩ => ⟨S_, .f32⟩
  | .hbm, ⟨54, _⟩ => ⟨S8x8192x2048, .f32⟩
  | .hbm, ⟨55, _⟩ => ⟨S8x8192x2048, .f32⟩
  | .hbm, ⟨56, _⟩ => ⟨S_, .f32⟩
  | .hbm, ⟨57, _⟩ => ⟨S8x8192x2048, .f32⟩
  | .hbm, ⟨58, _⟩ => ⟨S8x8192x2048, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S8x8192x1024, .f32⟩
  | .hbm, ⟨63, _⟩ => ⟨S8x8192x1024, .f32⟩
  | .hbm, ⟨64, _⟩ => ⟨S8x8192x1024, .f32⟩
  | .hbm, ⟨65, _⟩ => ⟨S_, .f32⟩
  | .hbm, ⟨66, _⟩ => ⟨S8x8192x1024, .f32⟩
  | .hbm, ⟨67, _⟩ => ⟨S8x8192x1024, .f32⟩
  | .hbm, ⟨68, _⟩ => ⟨S8x8192x1024, .f32⟩
  | .hbm, ⟨69, _⟩ => ⟨S_, .f32⟩
  | .hbm, ⟨70, _⟩ => ⟨S8x8192, .f32⟩
  | .hbm, ⟨71, _⟩ => ⟨S8x8192x1, .f32⟩
  | .hbm, ⟨72, _⟩ => ⟨S_, .f32⟩
  | .hbm, ⟨73, _⟩ => ⟨S8x8192x1, .f32⟩
  | .hbm, ⟨74, _⟩ => ⟨S8x8192x1, .f32⟩
  | .hbm, ⟨75, _⟩ => ⟨S8x8192x1024, .f32⟩
  | .hbm, ⟨76, _⟩ => ⟨S8x8192x1024, .f32⟩
  | .hbm, ⟨77, _⟩ => ⟨S8x8192x1024, .f32⟩
  | .hbm, ⟨78, _⟩ => ⟨S_, .f32⟩
  | .hbm, ⟨79, _⟩ => ⟨S8x8192, .f32⟩
  | .hbm, ⟨80, _⟩ => ⟨S8x8192x1, .f32⟩
  | .hbm, ⟨81, _⟩ => ⟨S_, .f32⟩
  | .hbm, ⟨82, _⟩ => ⟨S8x8192x1, .f32⟩
  | .hbm, ⟨83, _⟩ => ⟨S8x8192x1, .f32⟩
  | .hbm, ⟨84, _⟩ => ⟨S8x8192x1024, .f32⟩
  | .hbm, ⟨85, _⟩ => ⟨S8x8192x1024, .f32⟩
  | .hbm, ⟨86, _⟩ => ⟨S_, .f32⟩
  | .hbm, ⟨87, _⟩ => ⟨S8x8192x1, .f32⟩
  | .hbm, ⟨88, _⟩ => ⟨S8x8192x1, .f32⟩
  | .hbm, ⟨89, _⟩ => ⟨S8x8192x1, .f32⟩
  | .hbm, ⟨90, _⟩ => ⟨S8x8192x1024, .f32⟩
  | .hbm, ⟨91, _⟩ => ⟨S8x8192x1024, .f32⟩
  | .hbm, ⟨92, _⟩ => ⟨S1x1x1024, .f32⟩
  | .hbm, ⟨93, _⟩ => ⟨S8x8192x1024, .f32⟩
  | .hbm, ⟨94, _⟩ => ⟨S8x8192x1024, .f32⟩
  | .hbm, ⟨95, _⟩ => ⟨S1x1x1024, .f32⟩
  | .hbm, ⟨96, _⟩ => ⟨S8x8192x1024, .f32⟩
  | .hbm, ⟨97, _⟩ => ⟨S8x8192x1024, .f32⟩
  | .hbm, ⟨98, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024x2816 : Shape := ⟨2, ![1024, 2816]⟩
abbrev S2816x1024 : Shape := ⟨2, ![2816, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x256 : Shape := ⟨2, ![1024, 256]⟩
abbrev S1024x1 : Shape := ⟨2, ![1024, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x8192x1024 : Shape := ⟨3, ![4, 8192, 1024]⟩
abbrev S1024x2816 : Shape := ⟨2, ![1024, 2816]⟩
abbrev S2816x1024 : Shape := ⟨2, ![2816, 1024]⟩
abbrev S1024 : Shape := ⟨1, ![1024]⟩
abbrev S4x8192x2816 : Shape := ⟨3, ![4, 8192, 2816]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4x8192x2816, .f32⟩
  | .hbm, ⟨7, _⟩ => ⟨S4x8192x2816, .f32⟩
  | .hbm, ⟨8, _⟩ => ⟨S4x8192x2816, .f32⟩
  | .hbm, ⟨9, _⟩ => ⟨S_, .f32⟩
  | .hbm, ⟨10, _⟩ => ⟨S4x8192x2816, .f32⟩
  | .hbm, ⟨11, _⟩ => ⟨S4x8192x2816, .f32⟩
  | .hbm, ⟨12, _⟩ => ⟨S_, .f32⟩
  | .hbm, ⟨13, _⟩ => ⟨S4x8192x2816, .f32⟩
  | .hbm, ⟨14, _⟩ => ⟨S4x8192x2816, .f32⟩
  | .hbm, ⟨15, _⟩ => ⟨S4x8192x2816, .f32⟩
  | .hbm, ⟨16, _⟩ => ⟨S4x8192x2816, .f32⟩
  | .hbm, ⟨17, _⟩ => ⟨S4x8192x2816, .f32⟩
  | .hbm, ⟨18, _⟩ => ⟨S4x8192x1024, .f32⟩
  | .hbm, ⟨19, _⟩ => ⟨S_, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel5.lean ====
abbrev S8x8192x1024 : Shape := ⟨3, ![8, 8192, 1024]⟩
abbrev S1024x2848 : Shape := ⟨2, ![1024, 2848]⟩
abbrev S3x1536 : Shape := ⟨2, ![3, 1536]⟩
abbrev S2x8 : Shape := ⟨2, ![2, 8]⟩
abbrev S1024x32 : Shape := ⟨2, ![1024, 32]⟩
abbrev S_ : Shape := ⟨0, ![]⟩
abbrev S1024x128 : Shape := ⟨2, ![1024, 128]⟩
abbrev S1x16 : Shape := ⟨2, ![1, 16]⟩
abbrev S1x128 : Shape := ⟨2, ![1, 128]⟩
abbrev S1024x768 : Shape := ⟨2, ![1024, 768]⟩
abbrev S1024x1536 : Shape := ⟨2, ![1024, 1536]⟩
abbrev S1024x512 : Shape := ⟨2, ![1024, 512]⟩
abbrev S256x256 : Shape := ⟨2, ![256, 256]⟩
abbrev S8x8192x512 : Shape := ⟨3, ![8, 8192, 512]⟩
abbrev S8x8192x128 : Shape := ⟨3, ![8, 8192, 128]⟩
abbrev S1x8x1024 : Shape := ⟨3, ![1, 8, 1024]⟩
abbrev S1x512x1024 : Shape := ⟨3, ![1, 512, 1024]⟩
abbrev S1x512x512 : Shape := ⟨3, ![1, 512, 512]⟩
abbrev S1x512x128 : Shape := ⟨3, ![1, 512, 128]⟩
abbrev S512x1024 : Shape := ⟨2, ![512, 1024]⟩
abbrev S512x768 : Shape := ⟨2, ![512, 768]⟩
abbrev S512x512 : Shape := ⟨2, ![512, 512]⟩
abbrev S512x128 : Shape := ⟨2, ![512, 128]⟩
abbrev S8x1024 : Shape := ⟨2, ![8, 1024]⟩
abbrev S528x1024 : Shape := ⟨2, ![528, 1024]⟩
abbrev S528x1536 : Shape := ⟨2, ![528, 1536]⟩
abbrev S1x1536 : Shape := ⟨2, ![1, 1536]⟩
abbrev S512x1536 : Shape := ⟨2, ![512, 1536]⟩
abbrev S512x256 : Shape := ⟨2, ![512, 256]⟩

abbrev nBuf : Space → Nat
  | .hbm => 49
  | .vmem => 30
  | .smem => 0
  | _ => 0

abbrev bufTy : (tb : Table) → Fin (tcTables nBuf tb) → BufTy
  | .hbm, ⟨0, _⟩ => ⟨S8x8192x1024, .f32⟩
  | .hbm, ⟨1, _⟩ => ⟨S1024x2848, .f32⟩
  | .hbm, ⟨2, _⟩ => ⟨S3x1536, .f32⟩
  | .hbm, ⟨3, _⟩ => ⟨S2x8, .f32⟩
  | .hbm, ⟨4, _⟩ => ⟨S2x8, .f32⟩
  | .hbm, ⟨5, _⟩ => ⟨S1024x32, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S2x8, .f32⟩
  | .hbm, ⟨11, _⟩ => ⟨S2x8, .f32⟩
  | .hbm, ⟨12, _⟩ => ⟨S1x16, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x16, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1024x768, .f32⟩
  | .hbm, ⟨21, _⟩ => ⟨S1024x768, .bf16⟩
  | .hbm, ⟨22, _⟩ => ⟨S1024x1536, .f32⟩
  | .hbm, ⟨23, _⟩ => ⟨S1024x1536, .bf16⟩
  | .hbm, ⟨24, _⟩ => ⟨S1024x512, .f32⟩
  | .hbm, ⟨25, _⟩ => ⟨S1024x512, .bf16⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S256x256, .i1⟩
  | .hbm, ⟨35, _⟩ => ⟨S_, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .bf16⟩
  | .hbm, ⟨41, _⟩ => ⟨S8x8192x512, .bf16⟩
  | .hbm, ⟨42, _⟩ => ⟨S8x8192x128, .bf16⟩
  | .hbm, ⟨43, _⟩ => ⟨S8x8192x128, .bf16⟩
  | .hbm, ⟨44, _⟩ => ⟨S8x8192x512, .bf16⟩
  | .hbm, ⟨45, _⟩ => ⟨S8x8192x512, .bf16⟩
  | .hbm, ⟨46, _⟩ => ⟨S8x8192x512, .bf16⟩
  | .hbm, ⟨47, _⟩ => ⟨S8x8192x512, .bf16⟩
  | .hbm, ⟨48, _⟩ => ⟨S8x8192x128, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x768, .bf16⟩
  | .local _ .vmem, ⟨7, _⟩ => ⟨S1024x1536, .bf16⟩
  | .local _ .vmem, ⟨8, _⟩ => ⟨S1024x512, .bf16⟩
  | .local _ .vmem, ⟨9, _⟩ => ⟨S1024x128, .bf16⟩
  | .local _ .vmem, ⟨10, _⟩ => ⟨S3x1536, .f32⟩
  | .local _ .vmem, ⟨11, _⟩ => ⟨S1x128, .f32⟩
  | .local _ .vmem, ⟨12, _⟩ => ⟨S1x128, .f32⟩
  | .local _ .vmem, ⟨13, _⟩ => ⟨S256x256, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x128, .f32⟩
  | .local _ .vmem, ⟨29, _⟩ => ⟨S1x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_cst_4 : Ref sig .tc := ⟨.hbm, 36, rfl⟩
abbrev main_call3_v0 : Ref sig .tc := ⟨.hbm, 37, rfl⟩
abbrev main_call3_v1 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_v24_3 : Ref sig .tc := ⟨.hbm, 44, rfl⟩
abbrev main_v24_4 : Ref sig .tc := ⟨.hbm, 45, rfl⟩
abbrev main_v24_5 : Ref sig .tc := ⟨.hbm, 46, rfl⟩
abbrev main_v24_6 : Ref sig .tc := ⟨.hbm, 47, rfl⟩
abbrev main_v24_7 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference5Ideal.lean ====
abbrev S8x8192x1024 : Shape := ⟨3, ![8, 8192, 1024]⟩
abbrev S1024x2848 : Shape := ⟨2, ![1024, 2848]⟩
abbrev S3x1536 : Shape := ⟨2, ![3, 1536]⟩
abbrev S2x8 : Shape := ⟨2, ![2, 8]⟩
abbrev S8x8192x2848 : Shape := ⟨3, ![8, 8192, 2848]⟩
abbrev S8x8192x512 : Shape := ⟨3, ![8, 8192, 512]⟩
abbrev S8x8192x128 : Shape := ⟨3, ![8, 8192, 128]⟩
abbrev S8x8192x1536 : Shape := ⟨3, ![8, 8192, 1536]⟩
abbrev S8x8192x16 : Shape := ⟨3, ![8, 8192, 16]⟩
abbrev S_ : Shape := ⟨0, ![]⟩
abbrev S8x8194x1536 : Shape := ⟨3, ![8, 8194, 1536]⟩
abbrev S1x1536 : Shape := ⟨2, ![1, 1536]⟩
abbrev S1536 : Shape := ⟨1, ![1536]⟩
abbrev S1x1x1536 : Shape := ⟨3, ![1, 1, 1536]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S8x8192x2x8 : Shape := ⟨4, ![8, 8192, 2, 8]⟩
abbrev S1x1x2x8 : Shape := ⟨4, ![1, 1, 2, 8]⟩
abbrev S8x8192x96 : Shape := ⟨3, ![8, 8192, 96]⟩

abbrev nBuf : Space → Nat
  | .hbm => 120
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x2848, .f32⟩
  | .hbm, ⟨2, _⟩ => ⟨S3x1536, .f32⟩
  | .hbm, ⟨3, _⟩ => ⟨S2x8, .f32⟩
  | .hbm, ⟨4, _⟩ => ⟨S2x8, .f32⟩
  | .hbm, ⟨5, _⟩ => ⟨S8x8192x2848, .f32⟩
  | .hbm, ⟨6, _⟩ => ⟨S8x8192x512, .f32⟩
  | .hbm, ⟨7, _⟩ => ⟨S8x8192x128, .f32⟩
  | .hbm, ⟨8, _⟩ => ⟨S8x8192x128, .f32⟩
  | .hbm, ⟨9, _⟩ => ⟨S8x8192x1536, .f32⟩
  | .hbm, ⟨10, _⟩ => ⟨S8x8192x512, .f32⟩
  | .hbm, ⟨11, _⟩ => ⟨S8x8192x16, .f32⟩
  | .hbm, ⟨12, _⟩ => ⟨S8x8192x16, .f32⟩
  | .hbm, ⟨13, _⟩ => ⟨S_, .i32⟩
  | .hbm, ⟨14, _⟩ => ⟨S_, .f32⟩
  | .hbm, ⟨15, _⟩ => ⟨S8x8194x1536, .f32⟩
  | .hbm, ⟨16, _⟩ => ⟨S8x8192x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S8x8192x1536, .f32⟩
  | .hbm, ⟨21, _⟩ => ⟨S8x8192x1536, .f32⟩
  | .hbm, ⟨22, _⟩ => ⟨S8x8192x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S8x8192x1536, .f32⟩
  | .hbm, ⟨27, _⟩ => ⟨S8x8192x1536, .f32⟩
  | .hbm, ⟨28, _⟩ => ⟨S8x8192x1536, .f32⟩
  | .hbm, ⟨29, _⟩ => ⟨S8x8192x1536, .f32⟩
  | .hbm, ⟨30, _⟩ => ⟨S1x1536, .f32⟩
  | .hbm, ⟨31, _⟩ => ⟨S1536, .f32⟩
  | .hbm, ⟨32, _⟩ => ⟨S1x1x1536, .f32⟩
  | .hbm, ⟨33, _⟩ => ⟨S8x8192x1536, .f32⟩
  | .hbm, ⟨34, _⟩ => ⟨S8x8192x1536, .f32⟩
  | .hbm, ⟨35, _⟩ => ⟨S8x8192x1536, .f32⟩
  | .hbm, ⟨36, _⟩ => ⟨S8x8192x1536, .f32⟩
  | .hbm, ⟨37, _⟩ => ⟨S8x8192x1536, .f32⟩
  | .hbm, ⟨38, _⟩ => ⟨S_, .f32⟩
  | .hbm, ⟨39, _⟩ => ⟨S8x8192x1536, .f32⟩
  | .hbm, ⟨40, _⟩ => ⟨S8x8192x1536, .f32⟩
  | .hbm, ⟨41, _⟩ => ⟨S_, .f32⟩
  | .hbm, ⟨42, _⟩ => ⟨S8x8192x1536, .f32⟩
  | .hbm, ⟨43, _⟩ => ⟨S8x8192x1536, .f32⟩
  | .hbm, ⟨44, _⟩ => ⟨S8x8192x1536, .f32⟩
  | .hbm, ⟨45, _⟩ => ⟨S8x8192x512, .f32⟩
  | .hbm, ⟨46, _⟩ => ⟨S8x8192x512, .f32⟩
  | .hbm, ⟨47, _⟩ => ⟨S8x8192x512, .f32⟩
  | .hbm, ⟨48, _⟩ => ⟨S8x8192x8x64, .f32⟩
  | .hbm, ⟨49, _⟩ => ⟨S8x8192x8x64, .f32⟩
  | .hbm, ⟨50, _⟩ => ⟨S_, .f32⟩
  | .hbm, ⟨51, _⟩ => ⟨S8x8192x8, .f32⟩
  | .hbm, ⟨52, _⟩ => ⟨S8x8192x8x1, .f32⟩
  | .hbm, ⟨53, _⟩ => ⟨S_, .f32⟩
  | .hbm, ⟨54, _⟩ => ⟨S8x8192x8x1, .f32⟩
  | .hbm, ⟨55, _⟩ => ⟨S8x8192x8x1, .f32⟩
  | .hbm, ⟨56, _⟩ => ⟨S8x8192x8x1, .f32⟩
  | .hbm, ⟨57, _⟩ => ⟨S8x8192x8x64, .f32⟩
  | .hbm, ⟨58, _⟩ => ⟨S8x8192x8x64, .f32⟩
  | .hbm, ⟨59, _⟩ => ⟨S_, .f32⟩
  | .hbm, ⟨60, _⟩ => ⟨S8x8192x8x64, .f32⟩
  | .hbm, ⟨61, _⟩ => ⟨S8x8192x8x64, .f32⟩
  | .hbm, ⟨62, _⟩ => ⟨S8x8192x8x64, .f32⟩
  | .hbm, ⟨63, _⟩ => ⟨S8x8192x8x64, .f32⟩
  | .hbm, ⟨64, _⟩ => ⟨S_, .f32⟩
  | .hbm, ⟨65, _⟩ => ⟨S8x8192x8, .f32⟩
  | .hbm, ⟨66, _⟩ => ⟨S8x8192x8x1, .f32⟩
  | .hbm, ⟨67, _⟩ => ⟨S_, .f32⟩
  | .hbm, ⟨68, _⟩ => ⟨S8x8192x8x1, .f32⟩
  | .hbm, ⟨69, _⟩ => ⟨S8x8192x8x1, .f32⟩
  | .hbm, ⟨70, _⟩ => ⟨S8x8192x8x1, .f32⟩
  | .hbm, ⟨71, _⟩ => ⟨S8x8192x8x64, .f32⟩
  | .hbm, ⟨72, _⟩ => ⟨S8x8192x8x64, .f32⟩
  | .hbm, ⟨73, _⟩ => ⟨S2x8, .f32⟩
  | .hbm, ⟨74, _⟩ => ⟨S2x8, .f32⟩
  | .hbm, ⟨75, _⟩ => ⟨S8x8192x2x8, .f32⟩
  | .hbm, ⟨76, _⟩ => ⟨S1x1x2x8, .f32⟩
  | .hbm, ⟨77, _⟩ => ⟨S8x8192x2x8, .f32⟩
  | .hbm, ⟨78, _⟩ => ⟨S8x8192x2x8, .f32⟩
  | .hbm, ⟨79, _⟩ => ⟨S_, .f32⟩
  | .hbm, ⟨80, _⟩ => ⟨S8x8192x2x8, .f32⟩
  | .hbm, ⟨81, _⟩ => ⟨S8x8192x2x8, .f32⟩
  | .hbm, ⟨82, _⟩ => ⟨S8x8192x2x8, .f32⟩
  | .hbm, ⟨83, _⟩ => ⟨S8x8192x2x8, .f32⟩
  | .hbm, ⟨84, _⟩ => ⟨S8x8192x2x8, .i1⟩
  | .hbm, ⟨85, _⟩ => ⟨S8x8192x2x8, .f32⟩
  | .hbm, ⟨86, _⟩ => ⟨S8x8192x2x8, .f32⟩
  | .hbm, ⟨87, _⟩ => ⟨S8x8192x2x8, .f32⟩
  | .hbm, ⟨88, _⟩ => ⟨S8x8192x2x8, .f32⟩
  | .hbm, ⟨89, _⟩ => ⟨S8x8192x2x8, .f32⟩
  | .hbm, ⟨90, _⟩ => ⟨S8x8192x2x8, .f32⟩
  | .hbm, ⟨91, _⟩ => ⟨S8x8192x2x8, .f32⟩
  | .hbm, ⟨92, _⟩ => ⟨S8x8192x2x8, .f32⟩
  | .hbm, ⟨93, _⟩ => ⟨S1x1x2x8, .f32⟩
  | .hbm, ⟨94, _⟩ => ⟨S8x8192x2x8, .f32⟩
  | .hbm, ⟨95, _⟩ => ⟨S8x8192x2x8, .f32⟩
  | .hbm, ⟨96, _⟩ => ⟨S8x8192x16, .f32⟩
  | .hbm, ⟨97, _⟩ => ⟨S8x8192x16, .f32⟩
  | .hbm, ⟨98, _⟩ => ⟨S_, .f32⟩
  | .hbm, ⟨99, _⟩ => ⟨S8x8192x16, .f32⟩
  | .hbm, ⟨100, _⟩ => ⟨S8x8192x16, .f32⟩
  | .hbm, ⟨101, _⟩ => ⟨S_, .f32⟩
  | .hbm, ⟨102, _⟩ => ⟨S8x8192x16, .f32⟩
  | .hbm, ⟨103, _⟩ => ⟨S8x8192x16, .f32⟩
  | .hbm, ⟨104, _⟩ => ⟨S_, .f32⟩
  | .hbm, ⟨105, _⟩ => ⟨S8x8192x512, .f32⟩
  | .hbm, ⟨106, _⟩ => ⟨S8x8192x512, .f32⟩
  | .hbm, ⟨107, _⟩ => ⟨S8x8192x512, .bf16⟩
  | .hbm, ⟨108, _⟩ => ⟨S8x8192x128, .bf16⟩
  | .hbm, ⟨109, _⟩ => ⟨S8x8192x128, .bf16⟩
  | .hbm, ⟨110, _⟩ => ⟨S8x8192x512, .f32⟩
  | .hbm, ⟨111, _⟩ => ⟨S8x8192x512, .bf16⟩
  | .hbm, ⟨112, _⟩ => ⟨S8x8192x512, .f32⟩
  | .hbm, ⟨113, _⟩ => ⟨S8x8192x512, .bf16⟩
  | .hbm, ⟨114, _⟩ => ⟨S8x8192x512, .bf16⟩
  | .hbm, ⟨115, _⟩ => ⟨S8x8192x512, .bf16⟩
  | .hbm, ⟨116, _⟩ => ⟨S8x8192x16, .f32⟩
  | .hbm, ⟨117, _⟩ => ⟨S_, .f32⟩
  | .hbm, ⟨118, _⟩ => ⟨S8x8192x96, .f32⟩
  | .hbm, ⟨119, _⟩ => ⟨S8x8192x128, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_2 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_4 : Ref sig .tc := ⟨.hbm, 98, rfl⟩
abbrev main_v65 : Ref sig .tc := ⟨.hbm, 99, rfl⟩
abbrev main_v66 : Ref sig .tc := ⟨.hbm, 100, rfl⟩
abbrev main_cst_5 : Ref sig .tc := ⟨.hbm, 101, rfl⟩
abbrev main_v67 : Ref sig .tc := ⟨.hbm, 102, rfl⟩
abbrev main_v68 : Ref sig .tc := ⟨.hbm, 103, rfl⟩
abbrev main_cst_6 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_7 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]
-- ==== Proof.RowMath.lean ====
module

public import Idealize.ShloMosaic.Lib.Pointwise
public import Idealize.ShloMosaic.Lib.IdealHost

@[expose] public section

noncomputable section

/-! The formulas of one row of the layer, over the extended reals: nothing here speaks of tiles, blocks or memory. -/

namespace Cert.RowMath

open Idealize.ShloMosaic

/-- The logistic function `1 / (1 + exp (-x))`, the negation written `0 - x`. -/
def sigmoid (x : EReal) : EReal := Ideal.div 1 (1 + Ideal.exp (0 - x))

/-- `sigmoid` with the negation written as a negation. -/
theorem sigmoid_neg (x : EReal) : Ideal.div 1 (1 + Ideal.exp (-x)) = sigmoid x := by
  rw [sigmoid, zero_sub]

/-- The mean of the 1024 numbers of a row. -/
def mean (v : Fin 1024 → EReal) : EReal := Ideal.div (∑ k, v k) (Ideal.ofBits .f32 0x44800000#32)

/-- Entry `j` of the layer normalisation of a row `v` with gain `g` and offset `b`: the row's mean is taken away, the
    result divided by the root of its mean square plus the small constant, then scaled and shifted. -/
def layerNorm (v g b : Fin 1024 → EReal) (j : Fin 1024) : EReal :=
  (v j - mean v) * Ideal.rsqrt (mean (fun k => (v k - mean v) * (v k - mean v)) + Ideal.ofBits .f32 0x3727C5AC#32) * g j + b j

/-- Hidden unit `f` of the gated feed-forward network on a row `x`: `silu (x · w_gate) · (x · w_up)`. -/
def ffnHidden (x : Fin 1024 → EReal) (wg wu : Fin 1024 → Fin 2816 → EReal) (f : Fin 2816) : EReal :=
  (∑ k, x k * wg k f) * sigmoid (∑ k, x k * wg k f) * ∑ k, x k * wu k f

/-- The feed-forward block's residual sum: `α x + ½ (hidden · w_down)`. -/
def ffnSum (x : Fin 1024 → EReal) (wg wu : Fin 1024 → Fin 2816 → EReal) (wd : Fin 2816 → Fin 1024 → EReal)
    (j : Fin 1024) : EReal :=
  Ideal.ofBits .f32 0x3FB504F3#32 * x j + Ideal.ofBits .f32 0x3F000000#32 * ∑ f, ffnHidden x wg wu f * wd f j

/-- The feed-forward block's result row: the layer normalisation of `ffnSum`. -/
def ffnRow (x : Fin 1024 → EReal) (wg wu : Fin 1024 → Fin 2816 → EReal) (wd : Fin 2816 → Fin 1024 → EReal)
    (g b : Fin 1024 → EReal) : Fin 1024 → EReal :=
  layerNorm (ffnSum x wg wu wd) g b

end Cert.RowMath

end
-- ==== Proof.AttnMath.lean ====
module

public import proofs.«01_k».proof.Proof.RowMath

@[expose] public section

noncomputable section

/-! Attention of one query row over a window of 384 keys and one extra logit, the sink, which takes weight but has no value. -/

namespace Cert.AttnMath

open Idealize.ShloMosaic

/-- The largest of the window's logits and the sink. -/
def top (s : Fin 384 → EReal) (k : EReal) : EReal :=
  max (Finset.univ.fold max (Ideal.ofBits .f32 0xFF800000#32) s) k

/-- The weight of key `c` before normalisation. -/
def weight (s : Fin 384 → EReal) (k : EReal) (c : Fin 384) : EReal := Ideal.exp (s c - top s k)

/-- The sum of all weights, the sink's included. -/
def mass (s : Fin 384 → EReal) (k : EReal) : EReal := (∑ c, weight s k c) + Ideal.exp (k - top s k)

/-- The weighted sum of the values over the sum of the weights. -/
def attend (s : Fin 384 → EReal) (k : EReal) (v : Fin 384 → EReal) : EReal :=
  Ideal.div (∑ c, weight s k c * v c) (mass s k)

/-- A key whose logit is `⊥` has weight zero. -/
theorem weight_bot {s : Fin 384 → EReal} {c : Fin 384} (k : EReal) (h : s c = ⊥) : weight s k c = 0 := by
  rw [weight, h, sub_eq_add_neg, EReal.bot_add]; rfl

/-- Values at keys of logit `⊥` do not matter. -/
theorem attend_congr (s : Fin 384 → EReal) (k : EReal) (v w : Fin 384 → EReal) (h : ∀ c, s c = ⊥ ∨ v c = w c) :
    attend s k v = attend s k w := by
  unfold attend
  refine congrArg (Ideal.div · _) (Finset.sum_congr rfl fun c _ => ?_)
  rcases h c with h | h
  · rw [weight_bot k h, zero_mul, zero_mul]
  · rw [h]

/-- The sum of the values, each times its weight's part of the sum of the weights. -/
def attendParts (s : Fin 384 → EReal) (k : EReal) (v : Fin 384 → EReal) : EReal :=
  ∑ c, Ideal.div (weight s k c) (mass s k) * v c

/-- The word of minus infinity reads as `⊥`. -/
theorem minus_infinity : Ideal.ofBits .f32 0xFF800000#32 = ⊥ := by
  simp [Ideal.ofBits, Ideal.ieee]

/-- A sum of real numbers, read as extended ones. -/
theorem coe_sum {ι : Type*} (t : Finset ι) (f : ι → ℝ) : (∑ c ∈ t, (f c : EReal)) = ((∑ c ∈ t, f c : ℝ) : EReal) :=
  (map_sum (⟨⟨fun x : ℝ => (x : EReal), EReal.coe_zero⟩, EReal.coe_add⟩ : ℝ →+ EReal) f t).symm

/-- The largest logit is a real number when the sink is one and no logit is `⊤`. -/
theorem top_real {s : Fin 384 → EReal} {k : EReal} (hs : ∀ c, s c ≠ ⊤) (hk : k ≠ ⊤) (hk' : k ≠ ⊥) :
    top s k ≠ ⊤ ∧ top s k ≠ ⊥ := by
  refine ⟨(max_lt ?_ (lt_top_iff_ne_top.mpr hk)).ne, ne_bot_of_le_ne_bot hk' (le_max_right _ _)⟩
  exact (Finset.fold_max_lt _).mpr ⟨minus_infinity ▸ bot_lt_top, fun c _ => lt_top_iff_ne_top.mpr (hs c)⟩

/-- The exponential of a difference from a real number is not negative, and is a real number unless the minuend is `⊤`. -/
theorem exp_sub_real {x t : EReal} (hx : x ≠ ⊤) (ht : t ≠ ⊤) (ht' : t ≠ ⊥) :
    ∃ r : ℝ, 0 ≤ r ∧ Ideal.exp (x - t) = (r : EReal) ∧ (x ≠ ⊥ → 0 < r) := by
  lift t to ℝ using ⟨ht, ht'⟩
  induction x using EReal.rec with
  | bot => exact ⟨0, le_rfl, by rw [sub_eq_add_neg, EReal.bot_add]; rfl, fun h => absurd rfl h⟩
  | coe x => exact ⟨Real.exp (x - t), (Real.exp_pos _).le, rfl, fun _ => Real.exp_pos _⟩
  | top => exact absurd rfl hx

/-- The sum of all weights is a positive real number. -/
theorem mass_real {s : Fin 384 → EReal} {k : EReal} (hs : ∀ c, s c ≠ ⊤) (hk : k ≠ ⊤) (hk' : k ≠ ⊥) :
    ∃ r : ℝ, 0 < r ∧ mass s k = (r : EReal) := by
  obtain ⟨ht, ht'⟩ := top_real hs hk hk'
  choose w hw e _ using fun c => exp_sub_real (hs c) ht ht'
  obtain ⟨z, _, ez, hz⟩ := exp_sub_real hk ht ht'
  refine ⟨(∑ c, w c) + z, add_pos_of_nonneg_of_pos (Finset.sum_nonneg fun c _ => hw c) (hz hk'), ?_⟩
  unfold mass weight
  rw [Finset.sum_congr rfl fun c _ => e c, ez, EReal.coe_add, coe_sum]

/-- Dividing the weighted sum, or each weight, by the sum of the weights is the same. -/
theorem attend_eq {s : Fin 384 → EReal} {k : EReal} (v : Fin 384 → EReal) (hs : ∀ c, s c ≠ ⊤) (hk : k ≠ ⊤) (hk' : k ≠ ⊥) :
    attend s k v = attendParts s k v := by
  obtain ⟨r, hr, e⟩ := mass_real hs hk hk'
  have h0 : (r : EReal) ≠ 0 := by exact_mod_cast hr.ne'
  have hi : 0 ≤ ((r : EReal)⁻¹) := EReal.inv_nonneg_of_nonneg (by exact_mod_cast hr.le)
  have hi' : ((r : EReal)⁻¹) ≠ ⊤ := by rw [← EReal.coe_inv]; exact EReal.coe_ne_top _
  unfold attend attendParts
  rw [e]
  simp only [Ideal.div, if_neg h0]
  have hsum : ∀ (t : Finset (Fin 384)) (f : Fin 384 → EReal), (∑ c ∈ t, f c) * (r : EReal)⁻¹ = ∑ c ∈ t, f c * (r : EReal)⁻¹ := by
    intro t f
    induction t using Finset.induction_on with
    | empty => simp
    | insert a t ha ih =>
      rw [Finset.sum_insert ha, Finset.sum_insert ha, EReal.right_distrib_of_nonneg_of_ne_top hi hi', ih]
  rw [hsum]
  exact Finset.sum_congr rfl fun c _ => mul_right_comm _ _ _

end Cert.AttnMath

end
-- ==== Proof.AttnBlock.lean ====
module

public import proofs.«01_k».proof.Proof.AttnMath
public import proofs.«01_k».proof.Proof.Gen.KernelIdeal.Frame
public import Idealize.ShloMosaic.Lib.Pipeline.ValueKit

@[expose] public section

set_option maxRecDepth 16384

noncomputable section

/-! What one grid point of the attention kernel computes: 512 query rows, eight heads, as four blocks of 128 rows against
    windows of 384 keys, two heads to a store. -/

namespace Cert.KernelIdeal.Attn

open Cert.KernelIdeal Cert.KernelIdeal.Gen Idealize.ShloMosaic Idealize.ShloMosaic.TcCoe Idealize.SL.Sem
open Cert.AttnMath

/-- Whether position `p` is one of the 8192 keys, counting from 128 positions before the first key. -/
def inside (p : ℕ) : Prop := 128 ≤ p ∧ p < 8320

instance (p : ℕ) : Decidable (inside p) := inferInstanceAs (Decidable (_ ∧ _))

/-- The logit of query row `R` of tile `t`, head `h`, against position `c` of its window. -/
def blockScore (t : ℕ) (Q : FVec Ideal S1x512x512 .bf16) (K : FVec Ideal S768x128 .bf16) (B : FVec Ideal S8x128x384 .f32)
    (R : Fin 512) (h : Fin 8) (c : Fin 384) : EReal :=
  if inside (512 * t + 128 * (R / 128) + c) then
    (∑ d : Fin 64, Q (ix3 0 R ⟨64 * h + d, by omega⟩) * K (ix2 ⟨128 * (R / 128) + c, by omega⟩ ⟨64 * (h / 4) + d, by omega⟩))
      + B (ix3 h ⟨R % 128, by omega⟩ c)
  else ⊥

/-- Row `y 1`, column `y 2` of what tile `t` computes. -/
def blockOut (t : ℕ) (Q : FVec Ideal S1x512x512 .bf16) (K V : FVec Ideal S768x128 .bf16) (B : FVec Ideal S8x128x384 .f32)
    (snk : FVec Ideal S8 .f32) (y : S1x512x512.Idx) : EReal :=
  have h1 : (y 1 : ℕ) < 512 := (y 1).isLt
  have h2 : (y 2 : ℕ) < 512 := (y 2).isLt
  attend (blockScore t Q K B (y 1) ⟨y 2 / 64, by omega⟩) (snk (ix1 ⟨y 2 / 64, by omega⟩))
    fun c => V (ix2 ⟨128 * (y 1 / 128) + c, by omega⟩ ⟨64 * (y 2 / 64 / 4) + y 2 % 64, by omega⟩)

/-- What one store writes: two heads' outputs side by side, from their logits and their sinks. -/
def pairTerm (V : FVec Ideal S384x64 .bf16) (s1 s2 : FVec Ideal S128x384 .f32) (k1 k2 : Ideal .f32) : FVec Ideal S1x128x128 .bf16 :=
  k0_pay151 (F := Ideal) V (k0_pay133 s1 (k0_pay124 s1 k1)) (k0_pay133 s2 (k0_pay124 s2 k2))
    (k0_pay141 (k0_pay124 s1 k1) (k0_pay133 s1 (k0_pay124 s1 k1)) k1)
    (k0_pay141 (k0_pay124 s2 k2) (k0_pay133 s2 (k0_pay124 s2 k2)) k2)

/-- Entry `x` of one store: the first 64 columns are the first head's. -/
theorem pairTerm_apply (V : FVec Ideal S384x64 .bf16) (s1 s2 : FVec Ideal S128x384 .f32) (k1 k2 : Ideal .f32) (x : S1x128x128.Idx) :
    pairTerm V s1 s2 k1 k2 x =
      if (x 2 : ℕ) < 64 then attend (fun c => s1 (ix2 (x 1) c)) k1 (fun c => V (ix2 c ⟨x 2 % 64, by omega⟩))
      else attend (fun c => s2 (ix2 (x 1) c)) k2 (fun c => V (ix2 c ⟨x 2 % 64, by omega⟩)) := by
  have h2 : (x 2 : ℕ) < 128 := (x 2).isLt
  pointwise [pairTerm, k0_pay151, k0_pay133, k0_pay124, k0_pay141, attend, mass, weight, top]
  split
  · have : (x 2 : ℕ) % 64 = x 2 := by omega
    simp only [this]
  · have : (x 2 : ℕ) % 64 = x 2 - 64 := by omega
    simp only [this]

/-- The logits of one head on one block, from the tile's windows. -/
theorem score_apply (t : ℕ) (K : FVec Ideal S768x128 .bf16) (Q : FVec Ideal S1x512x512 .bf16) (B : FVec Ideal S8x128x384 .f32)
    (j h r0 g o : ℕ) (hj : j < 4) (hh : h < 8) (hr : r0 = 128 * j) (hg : g = 64 * (h / 4)) (ho : o = 64 * h)
    (hs : S768x128.Slices ![r0, g] S384x64) (inb1) (inb2) (r : Fin 128) (c : Fin 384)
    (hin : inside (512 * t + 128 * j + c)) :
    k0_pay115 (F := Ideal) (extractStridedSlice S384x64 ![r0, g] K hs)
        (View.ld Q (Rect.unit (s := S1x512x512) ![0, r0, o] ![1, 128, 64] inb1))
        (View.ld B (Rect.unit (s := S8x128x384) ![h, 0, 0] ![1, 128, 384] inb2)) (ix2 r c)
      = blockScore t Q K B ⟨128 * j + r, by omega⟩ ⟨h, hh⟩ c := by
  subst hr hg ho
  have e1 : (128 * j + (r : ℕ)) / 128 = j := by omega
  have e2 : (128 * j + (r : ℕ)) % 128 = r := by omega
  pointwise [k0_pay115, blockScore]
  simp only [e1, e2, if_pos hin]

/-- The same under an edge mask. -/
theorem masked_apply (t : ℕ) (K : FVec Ideal S768x128 .bf16) (Q : FVec Ideal S1x512x512 .bf16) (B : FVec Ideal S8x128x384 .f32)
    (E : IVec S128x384 1)
    (j h r0 g o : ℕ) (hj : j < 4) (hh : h < 8) (hr : r0 = 128 * j) (hg : g = 64 * (h / 4)) (ho : o = 64 * h)
    (hs : S768x128.Slices ![r0, g] S384x64) (inb1) (inb2) (r : Fin 128) (c : Fin 384)
    (hE : E (ix2 r c) = if inside (512 * t + 128 * j + c) then 0#1 else 1#1) :
    select E (broadcast S128x384 (Named.named (F := Ideal) κ "mask" 0xF149F2CA#32)) (k0_pay115 (F := Ideal) (extractStridedSlice S384x64 ![r0, g] K hs)
        (View.ld Q (Rect.unit (s := S1x512x512) ![0, r0, o] ![1, 128, 64] inb1))
        (View.ld B (Rect.unit (s := S8x128x384) ![h, 0, 0] ![1, 128, 384] inb2))) (ix2 r c)
      = blockScore t Q K B ⟨128 * j + r, by omega⟩ ⟨h, hh⟩ c := by
  have e1 : (128 * j + (r : ℕ)) / 128 = j := by omega
  by_cases hin : inside (512 * t + 128 * j + c)
  · rw [← score_apply t K Q B j h r0 g o hj hh hr hg ho hs inb1 inb2 r c hin]
    rw [if_pos hin] at hE
    simp only [select, hE]
    rfl
  · rw [if_neg hin] at hE
    simp only [select, hE, blockScore, e1, if_neg hin]
    rfl

/-- One store of block `j` and heads `2 p`, `2 p + 1` writes the values of `blockOut` at its place. -/
theorem tile (t : ℕ) (Q : FVec Ideal S1x512x512 .bf16) (K V : FVec Ideal S768x128 .bf16) (B : FVec Ideal S8x128x384 .f32)
    (snk : FVec Ideal S8 .f32) (j p r0 g : ℕ) (hj : j < 4) (hp : p < 4) (hr : r0 = 128 * j) (hg : g = 64 * (p / 2))
    (hs : S768x128.Slices ![r0, g] S384x64) (s1 s2 : FVec Ideal S128x384 .f32) (k1 k2 : Ideal .f32)
    (h1 : ∀ r c, s1 (ix2 r c) = blockScore t Q K B ⟨128 * j + r, by omega⟩ ⟨2 * p, by omega⟩ c)
    (h2 : ∀ r c, s2 (ix2 r c) = blockScore t Q K B ⟨128 * j + r, by omega⟩ ⟨2 * p + 1, by omega⟩ c)
    (hk1 : k1 = snk (ix1 ⟨2 * p, by omega⟩)) (hk2 : k2 = snk (ix1 ⟨2 * p + 1, by omega⟩))
    (x : S1x128x128.Idx) (y : S1x512x512.Idx) (hy1 : (y 1 : ℕ) = 128 * j + x 1) (hy2 : (y 2 : ℕ) = 128 * p + x 2) :
    pairTerm (extractStridedSlice S384x64 ![r0, g] V hs) s1 s2 k1 k2 x = blockOut t Q K V B snk y := by
  subst hr hg
  have hx1 : (x 1 : ℕ) < 128 := (x 1).isLt
  have hx2 : (x 2 : ℕ) < 128 := (x 2).isLt
  rw [pairTerm_apply]
  have e1 : (y 1) = (⟨128 * j + x 1, by omega⟩ : Fin 512) := Fin.ext hy1
  have e2 : (128 * j + (x 1 : ℕ)) / 128 = j := by omega
  have e3 : (128 * p + (x 2 : ℕ)) % 64 = x 2 % 64 := by omega
  split
  · have e4 : (128 * p + (x 2 : ℕ)) / 64 = 2 * p := by omega
    have e5 : 2 * p / 4 = p / 2 := by omega
    simp only [blockOut, e1, hy2, e2, e3, e4, e5, hk1]
    refine congrArg₂ (attend · _ ·) (funext fun c => h1 _ c) (funext fun c => ?_)
    pointwise []
  · have e4 : (128 * p + (x 2 : ℕ)) / 64 = 2 * p + 1 := by omega
    have e5 : (2 * p + 1) / 4 = p / 2 := by omega
    simp only [blockOut, e1, hy2, e2, e3, e4, e5, hk2]
    refine congrArg₂ (attend · _ ·) (funext fun c => h2 _ c) (funext fun c => ?_)
    pointwise []

/-- One store of an inner block, from the loads of the tile's windows: rows `r0` and on, heads `n` and `n'`. -/
theorem tile_inner (t : ℕ) (ht : t < 16) (Q : FVec Ideal S1x512x512 .bf16) (K V : FVec Ideal S768x128 .bf16)
    (B : FVec Ideal S8x128x384 .f32) (snk : FVec Ideal S8 .f32) (r0 g o o' n n' : ℕ) (hr : r0 = 128 ∨ r0 = 256) (hn : n < 7)
    (h2 : n % 2 = 0) (hn' : n' = n + 1) (hg : g = 64 * (n / 4)) (ho : o = 64 * n) (ho' : o' = 64 * n')
    (hs : S768x128.Slices ![r0, g] S384x64) (inq) (inb) (inq') (inb') (k k' : Ideal .f32)
    (hk : k = snk (ix1 ⟨n, by omega⟩)) (hk' : k' = snk (ix1 ⟨n', by omega⟩))
    (x : S1x128x128.Idx) (y : S1x512x512.Idx) (hy1 : (y 1 : ℕ) = r0 + x 1) (hy2 : (y 2 : ℕ) = o + x 2) :
    pairTerm (extractStridedSlice S384x64 ![r0, g] V hs)
      (k0_pay115 (F := Ideal) (extractStridedSlice S384x64 ![r0, g] K hs)
        (View.ld Q (Rect.unit (s := S1x512x512) ![0, r0, o] ![1, 128, 64] inq))
        (View.ld B (Rect.unit (s := S8x128x384) ![n, 0, 0] ![1, 128, 384] inb)))
      (k0_pay115 (F := Ideal) (extractStridedSlice S384x64 ![r0, g] K hs)
        (View.ld Q (Rect.unit (s := S1x512x512) ![0, r0, o'] ![1, 128, 64] inq'))
        (View.ld B (Rect.unit (s := S8x128x384) ![n', 0, 0] ![1, 128, 384] inb'))) k k' x = blockOut t Q K V B snk y := by
  obtain ⟨j, rfl⟩ : ∃ j, r0 = 128 * j := ⟨r0 / 128, by omega⟩
  obtain ⟨p, rfl⟩ : ∃ p, n = 2 * p := ⟨n / 2, by omega⟩
  subst hn'
  refine tile t Q K V B snk j p _ g (by omega) (by omega) rfl (by omega) hs _ _ k k' (fun r c => ?_) (fun r c => ?_) hk hk' x y
    hy1 (by omega)
  · exact score_apply t K Q B j _ _ g o (by omega) (by omega) rfl (by omega) ho hs inq inb r c (by unfold inside; omega)
  · exact score_apply t K Q B j _ _ g o' (by omega) (by omega) rfl (by omega) ho' hs inq' inb' r c (by unfold inside; omega)

/-- One store of an edge block, under its mask. -/
theorem tile_edge (t : ℕ) (Q : FVec Ideal S1x512x512 .bf16) (K V : FVec Ideal S768x128 .bf16) (B : FVec Ideal S8x128x384 .f32)
    (snk : FVec Ideal S8 .f32) (E : IVec S128x384 1) (r0 g o o' n n' : ℕ)
    (hE : ∀ x, E x = if inside (512 * t + r0 + x 1) then 0#1 else 1#1) (hr : r0 < 512) (h8 : r0 % 128 = 0) (hn : n < 7)
    (h2 : n % 2 = 0) (hn' : n' = n + 1) (hg : g = 64 * (n / 4)) (ho : o = 64 * n) (ho' : o' = 64 * n')
    (hs : S768x128.Slices ![r0, g] S384x64) (inq) (inb) (inq') (inb') (k k' : Ideal .f32)
    (hk : k = snk (ix1 ⟨n, by omega⟩)) (hk' : k' = snk (ix1 ⟨n', by omega⟩))
    (x : S1x128x128.Idx) (y : S1x512x512.Idx) (hy1 : (y 1 : ℕ) = r0 + x 1) (hy2 : (y 2 : ℕ) = o + x 2) :
    pairTerm (extractStridedSlice S384x64 ![r0, g] V hs)
      (select E (broadcast S128x384 (Named.named (F := Ideal) κ "mask" 0xF149F2CA#32))
        (k0_pay115 (F := Ideal) (extractStridedSlice S384x64 ![r0, g] K hs)
          (View.ld Q (Rect.unit (s := S1x512x512) ![0, r0, o] ![1, 128, 64] inq))
          (View.ld B (Rect.unit (s := S8x128x384) ![n, 0, 0] ![1, 128, 384] inb))))
      (select E (broadcast S128x384 (Named.named (F := Ideal) κ "mask" 0xF149F2CA#32))
        (k0_pay115 (F := Ideal) (extractStridedSlice S384x64 ![r0, g] K hs)
          (View.ld Q (Rect.unit (s := S1x512x512) ![0, r0, o'] ![1, 128, 64] inq'))
          (View.ld B (Rect.unit (s := S8x128x384) ![n', 0, 0] ![1, 128, 384] inb')))) k k' x = blockOut t Q K V B snk y := by
  obtain ⟨j, rfl⟩ : ∃ j, r0 = 128 * j := ⟨r0 / 128, by omega⟩
  obtain ⟨p, rfl⟩ : ∃ p, n = 2 * p := ⟨n / 2, by omega⟩
  subst hn'
  refine tile t Q K V B snk j p _ g (by omega) (by omega) rfl (by omega) hs _ _ k k' (fun r c => ?_) (fun r c => ?_) hk hk' x y
    hy1 (by omega)
  · exact masked_apply t K Q B E j _ _ g o (by omega) (by omega) rfl (by omega) ho hs inq inb r c (hE _)
  · exact masked_apply t K Q B E j _ _ g o' (by omega) (by omega) rfl (by omega) ho' hs inq' inb' r c (hE _)

/-- The mask on the first block of a tile: the first 128 positions, on the first tile only. -/
theorem first_edge (i : grid0.Coords) (x : S128x384.Idx) :
    k0_pay3 i x = if inside (512 * (i 1 : ℕ) + 0 + x 1) then 0#1 else 1#1 := by
  pointwise [k0_pay3]
  exact (by decide +kernel : ∀ (a : Fin 16) (b : Fin 384), IntOp.andi (Scalar.cmpi .eq (BitVec.ofNat 32 a) 0#32)
    (IntOp.cmpi .slt (BitVec.ofNat 32 b) 128#32) = if inside (512 * a.val + b) then 0#1 else 1#1) (i 1) (x 1)

/-- The mask on the last block of a tile: the last 128 positions, on the last tile only. -/
theorem last_edge (i : grid0.Coords) (x : S128x384.Idx) :
    k0_pay155 (k0_pay153 (iota .tc S128x384 32 [1] iota_S128x384_d1_w32)) (k0_pay154 (Scalar.cmpi .eq (BitVec.ofNat 32 (i 1).val) 15#32)) x
      = if inside (512 * (i 1 : ℕ) + 384 + x 1) then 0#1 else 1#1 := by
  pointwise [k0_pay155, k0_pay154, k0_pay153]
  exact (by decide +kernel : ∀ (a : Fin 16) (b : Fin 384), IntOp.andi (Scalar.cmpi .eq (BitVec.ofNat 32 a) 15#32)
    (IntOp.cmpi .sge (BitVec.ofNat 32 b) 256#32) = if inside (512 * a.val + 384 + b) then 0#1 else 1#1) (i 1) (x 1)

/-- The sink of head `n`, as loaded. -/
theorem sink_apply (snk : FVec Ideal S8 .f32) (n : ℕ) (hn : n < 8) (inb) (h) :
    (View.ld (Val := Elt Ideal) (e' := .f32) (snk : Vec Ideal S8 .f32) (Rect.unit (s := S8) ![n] ![1] inb) (Shape.Idx.first (s := ⟨1, ![1]⟩) h) : EReal) = snk (ix1 ⟨n, hn⟩) := by
  refine congrArg snk ?_
  have h0 : ((Shape.Idx.first (s := ⟨1, ![1]⟩) h 0 : Fin _) : ℕ) < 1 := (Shape.Idx.first (s := ⟨1, ![1]⟩) h 0).isLt
  blk_ext
  show n + 1 * ((Shape.Idx.first (s := ⟨1, ![1]⟩) h 0 : Fin _) : ℕ) = n
  omega

variable (m : (ℓ : Loc nD τ sig) → Buf (Elt Ideal) ℓ)

/-- What point `t` leaves in the output block. -/
theorem outsAt_apply (c : Dev nD) (t : Fin cfg0.N) (y : S1x512x512.Idx) :
    outsAt0 m c t y = blockOut (grid0.coords t 1 : ℕ) (iblk m c 1 t) (k0_pay1 (F := Ideal) (iblk m c 2 t) (iblk m c 3 t) (iblk m c 4 t))
      (k0_pay2 (F := Ideal) (iblk m c 5 t) (iblk m c 6 t) (iblk m c 7 t)) (iblk m c 8 t) (iblk m c 0 t) y := by
  have ht : (grid0.coords t 1 : ℕ) < 16 := (grid0.coords t 1).isLt
  unfold Gen.outsAt0
  frame_out
  canon_tiles x h
  · exact tile_edge (grid0.coords t 1 : ℕ) _ _ _ _ _ _ 384 64 384 448 6 7 (last_edge (grid0.coords t)) (by decide) rfl (by decide) rfl rfl rfl rfl rfl
      (by decide) _ _ _ _ _ _ (sink_apply _ _ _ _ _) (sink_apply _ _ _ _ _) _ _ (by omega) (by omega)
  · exact tile_edge (grid0.coords t 1 : ℕ) _ _ _ _ _ _ 384 64 256 320 4 5 (last_edge (grid0.coords t)) (by decide) rfl (by decide) rfl rfl rfl rfl rfl
      (by decide) _ _ _ _ _ _ (sink_apply _ _ _ _ _) (sink_apply _ _ _ _ _) _ _ (by omega) (by omega)
  · exact tile_edge (grid0.coords t 1 : ℕ) _ _ _ _ _ _ 384 0 128 192 2 3 (last_edge (grid0.coords t)) (by decide) rfl (by decide) rfl rfl rfl rfl rfl
      (by decide) _ _ _ _ _ _ (sink_apply _ _ _ _ _) (sink_apply _ _ _ _ _) _ _ (by omega) (by omega)
  · exact tile_edge (grid0.coords t 1 : ℕ) _ _ _ _ _ _ 384 0 0 64 0 1 (last_edge (grid0.coords t)) (by decide) rfl (by decide) rfl rfl rfl rfl rfl
      (by decide) _ _ _ _ _ _ (sink_apply _ _ _ _ _) (sink_apply _ _ _ _ _) _ _ (by omega) (by omega)
  · exact tile_inner (grid0.coords t 1 : ℕ) ht _ _ _ _ _ 256 64 384 448 6 7 (.inr rfl) (by decide) rfl rfl rfl rfl rfl
      (by decide) _ _ _ _ _ _ (sink_apply _ _ _ _ _) (sink_apply _ _ _ _ _) _ _ (by omega) (by omega)
  · exact tile_inner (grid0.coords t 1 : ℕ) ht _ _ _ _ _ 256 64 256 320 4 5 (.inr rfl) (by decide) rfl rfl rfl rfl rfl
      (by decide) _ _ _ _ _ _ (sink_apply _ _ _ _ _) (sink_apply _ _ _ _ _) _ _ (by omega) (by omega)
  · exact tile_inner (grid0.coords t 1 : ℕ) ht _ _ _ _ _ 256 0 128 192 2 3 (.inr rfl) (by decide) rfl rfl rfl rfl rfl
      (by decide) _ _ _ _ _ _ (sink_apply _ _ _ _ _) (sink_apply _ _ _ _ _) _ _ (by omega) (by omega)
  · exact tile_inner (grid0.coords t 1 : ℕ) ht _ _ _ _ _ 256 0 0 64 0 1 (.inr rfl) (by decide) rfl rfl rfl rfl rfl
      (by decide) _ _ _ _ _ _ (sink_apply _ _ _ _ _) (sink_apply _ _ _ _ _) _ _ (by omega) (by omega)
  · exact tile_inner (grid0.coords t 1 : ℕ) ht _ _ _ _ _ 128 64 384 448 6 7 (.inl rfl) (by decide) rfl rfl rfl rfl rfl
      (by decide) _ _ _ _ _ _ (sink_apply _ _ _ _ _) (sink_apply _ _ _ _ _) _ _ (by omega) (by omega)
  · exact tile_inner (grid0.coords t 1 : ℕ) ht _ _ _ _ _ 128 64 256 320 4 5 (.inl rfl) (by decide) rfl rfl rfl rfl rfl
      (by decide) _ _ _ _ _ _ (sink_apply _ _ _ _ _) (sink_apply _ _ _ _ _) _ _ (by omega) (by omega)
  · exact tile_inner (grid0.coords t 1 : ℕ) ht _ _ _ _ _ 128 0 128 192 2 3 (.inl rfl) (by decide) rfl rfl rfl rfl rfl
      (by decide) _ _ _ _ _ _ (sink_apply _ _ _ _ _) (sink_apply _ _ _ _ _) _ _ (by omega) (by omega)
  · exact tile_inner (grid0.coords t 1 : ℕ) ht _ _ _ _ _ 128 0 0 64 0 1 (.inl rfl) (by decide) rfl rfl rfl rfl rfl
      (by decide) _ _ _ _ _ _ (sink_apply _ _ _ _ _) (sink_apply _ _ _ _ _) _ _ (by omega) (by omega)
  · exact tile_edge (grid0.coords t 1 : ℕ) _ _ _ _ _ _ 0 64 384 448 6 7 (first_edge (grid0.coords t)) (by decide) rfl (by decide) rfl rfl rfl rfl rfl
      (by decide) _ _ _ _ _ _ (sink_apply _ _ _ _ _) (sink_apply _ _ _ _ _) _ _ (by omega) (by omega)
  · exact tile_edge (grid0.coords t 1 : ℕ) _ _ _ _ _ _ 0 64 256 320 4 5 (first_edge (grid0.coords t)) (by decide) rfl (by decide) rfl rfl rfl rfl rfl
      (by decide) _ _ _ _ _ _ (sink_apply _ _ _ _ _) (sink_apply _ _ _ _ _) _ _ (by omega) (by omega)
  · exact tile_edge (grid0.coords t 1 : ℕ) _ _ _ _ _ _ 0 0 128 192 2 3 (first_edge (grid0.coords t)) (by decide) rfl (by decide) rfl rfl rfl rfl rfl
      (by decide) _ _ _ _ _ _ (sink_apply _ _ _ _ _) (sink_apply _ _ _ _ _) _ _ (by omega) (by omega)
  · exact tile_edge (grid0.coords t 1 : ℕ) _ _ _ _ _ _ 0 0 0 64 0 1 (first_edge (grid0.coords t)) (by decide) rfl (by decide) rfl rfl rfl rfl rfl
      (by decide) _ _ _ _ _ _ (sink_apply _ _ _ _ _) (sink_apply _ _ _ _ _) _ _ (by omega) (by omega)

end Cert.KernelIdeal.Attn

end
-- ==== Proof.AttnArray.lean ====
module

public import proofs.«01_k».proof.Proof.AttnBlock

@[expose] public section

set_option maxRecDepth 16384

noncomputable section

/-! What the attention kernel's result array holds after the run, over its argument arrays. -/

namespace Cert.KernelIdeal.Attn

open Cert.KernelIdeal Cert.KernelIdeal.Gen Idealize.ShloMosaic Idealize.ShloMosaic.TcCoe Idealize.SL.Sem
open Cert.AttnMath

variable (m : (ℓ : Loc nD τ sig) → Buf (Elt Ideal) ℓ)

/-- The bias of each position of the window relative to the query, per head, looked up by bucket. -/
def gathered (rb : FVec Ideal S32x8 .f32) : FVec Ideal S128x384x8 .f32 :=
  Host.gather gather_S32x8_S128x384x1_S128x384x8_2_0_n_n_0_2_18 rb (broadcastInDim S128x384x1 ![0, 1] bcast_S128x384_S128x384x1_0_1
    (select (constantI S128x384 1 0#1) (addi (fun i => lit0 (S128x384.rowMajor i)) (broadcastInDim S128x384 ![] bcast_S_S128x384 (constantI S_ 32 32#32)))
      (fun i => lit0 (S128x384.rowMajor i))))

/-- The bias table: minus infinity outside the band of 128 positions on either side. -/
def biasTerm (rb : FVec Ideal S32x8 .f32) : FVec Ideal S8x128x384 .f32 :=
  select (broadcastInDim S8x128x384 ![0, 1, 2] bcast_S1x128x384_S8x128x384_0_1_2
      (broadcastInDim S1x128x384 ![1, 2] bcast_S128x384_S1x128x384_1_2 (fun i => lit1 (S128x384.rowMajor i))))
    (transpose S8x128x384 [2, 0, 1] (gathered rb) transposes_S128x384x8_S8x128x384_2_0_1)
    (broadcastInDim S8x128x384 ![] bcast_S_S8x128x384 (constant S_ .f32 0xFF800000#32))

/-- The host lines before the call compute the bias table. -/
theorem bias_eq (c : Dev nD) : V m c main_v7 = biasTerm (m ((c : Thread nD τ).loc main_arg3)) := by
  show StableHlo.after [hostOps0, hostOps0_1].flatten (fun b => m (c, b)) (Proc.tc.devRef main_v7) = _
  simp only [List.flatten_cons, List.flatten_nil, List.append_nil, List.cons_append, List.nil_append, hostOps0, hostOps0_1,
    StableHlo.TRef.binary, StableHlo.TRef.ternary, StableHlo.TRef.unary, StableHlo.TRef.toBuf, StableHlo.TRef.ofBuf, cast_eq]
  after_results_simp <;> rfl

/-- The windows' block indices: point `t` works on tile `t % 16` of batch `t / 16`; the blocks before and after the tile are
    clamped at the ends of the sequence. -/
theorem idx : ∀ t : Fin cfg0.N, win0_0.index t = ![0] ∧ win0_1.index t = ![t.val / 16, t.val % 16, 0]
    ∧ win0_2.index t = ![t.val / 16, 4 * (t.val % 16) - 1, 0] ∧ win0_3.index t = ![t.val / 16, t.val % 16, 0]
    ∧ win0_4.index t = ![t.val / 16, min (4 * (t.val % 16) + 4) 63, 0]
    ∧ win0_5.index t = ![t.val / 16, 4 * (t.val % 16) - 1, 0] ∧ win0_6.index t = ![t.val / 16, t.val % 16, 0]
    ∧ win0_7.index t = ![t.val / 16, min (4 * (t.val % 16) + 4) 63, 0] ∧ win0_8.index t = ![0, 0, 0]
    ∧ win0_9.index t = ![t.val / 16, t.val % 16, 0] :=
  (by decide +kernel : ∀ t : Fin grid0.N, _)

/-- The tile number of point `t`. -/
theorem coord : ∀ t : Fin cfg0.N, (grid0.coords t 1 : ℕ) = t.val % 16 :=
  (by decide +kernel : ∀ t : Fin grid0.N, _)

/-- Row `p` of a sequence with 128 rows of zeros before it and after it. -/
def padded (X : FVec Ideal S8x8192x128 .bf16) (b : Fin 8) (p : ℕ) (d : Fin 128) : EReal :=
  if h : inside p then X (ix3 b ⟨p - 128, by unfold inside at h; omega⟩ d) else 0

/-- The logit of query row `S` of batch `b`, head `h`, against position `c` of its window. -/
def score (Q : FVec Ideal S8x8192x512 .bf16) (K : FVec Ideal S8x8192x128 .bf16) (B : FVec Ideal S8x128x384 .f32)
    (b : Fin 8) (S : Fin 8192) (h : Fin 8) (c : Fin 384) : EReal :=
  if inside (128 * (S / 128) + c) then
    (∑ d : Fin 64, Q (ix3 b S ⟨64 * h + d, by omega⟩) * padded K b (128 * (S / 128) + c) ⟨64 * (h / 4) + d, by omega⟩)
      + B (ix3 h ⟨S % 128, by omega⟩ c)
  else ⊥

/-- The attention on every row: entry `y` of the result. -/
def result (Q : FVec Ideal S8x8192x512 .bf16) (K V : FVec Ideal S8x8192x128 .bf16) (B : FVec Ideal S8x128x384 .f32)
    (snk : FVec Ideal S8 .f32) : FVec Ideal S8x8192x512 .bf16 := fun y =>
  have h2 : (y 2 : ℕ) < 512 := (y 2).isLt
  attend (score Q K B (y 0) (y 1) ⟨y 2 / 64, by omega⟩) (snk (ix1 ⟨y 2 / 64, by omega⟩))
    fun c => padded V (y 0) (128 * (y 1 / 128) + c) ⟨64 * (y 2 / 64 / 4) + y 2 % 64, by omega⟩

/-- The keys of a tile: the block before it, its own rows, the block after it. -/
theorem keys_read (c : Dev nD) (t : Fin cfg0.N) (P : Fin 768) (d : Fin 128) (ht : t.val < 128) (hP : inside (512 * (t.val % 16) + P)) :
    k0_pay1 (F := Ideal) (iblk m c 2 t) (iblk m c 3 t) (iblk m c 4 t) (ix2 P d)
      = padded (m ((c : Thread nD τ).loc main_arg1)) ⟨t / 16, by omega⟩ (512 * (t.val % 16) + P) d := by
  rw [padded, dif_pos hP]
  unfold inside at hP
  have hP2 := P.isLt
  pointwise [k0_pay1]
  split
  · blk_point [iblk, V, idx t]
  split
  · blk_point [iblk, V, idx t]
  · blk_point [iblk, V, idx t]

/-- The values of a tile, likewise. -/
theorem vals_read (c : Dev nD) (t : Fin cfg0.N) (P : Fin 768) (d : Fin 128) (ht : t.val < 128) (hP : inside (512 * (t.val % 16) + P)) :
    k0_pay2 (F := Ideal) (iblk m c 5 t) (iblk m c 6 t) (iblk m c 7 t) (ix2 P d)
      = padded (m ((c : Thread nD τ).loc main_arg2)) ⟨t / 16, by omega⟩ (512 * (t.val % 16) + P) d := by
  rw [padded, dif_pos hP]
  unfold inside at hP
  have hP2 := P.isLt
  pointwise [k0_pay2]
  split
  · blk_point [iblk, V, idx t]
  split
  · blk_point [iblk, V, idx t]
  · blk_point [iblk, V, idx t]

/-- The logits of a tile are those of its rows of the sequence. -/
theorem score_read (c : Dev nD) (t : Fin cfg0.N) (ht : t.val < 128) (R : Fin 512) (h : Fin 8) (k : Fin 384) :
    blockScore (t.val % 16) (iblk m c 1 t) (k0_pay1 (F := Ideal) (iblk m c 2 t) (iblk m c 3 t) (iblk m c 4 t)) (iblk m c 8 t) R h k
      = score (m ((c : Thread nD τ).loc main_arg0)) (m ((c : Thread nD τ).loc main_arg1)) (V m c main_v7)
          ⟨t / 16, by omega⟩ ⟨512 * (t.val % 16) + R, by omega⟩ h k := by
  have e1 : 128 * ((512 * (t.val % 16) + (R : ℕ)) / 128) + k = 512 * (t.val % 16) + (128 * (R / 128) + k) := by omega
  have e2 : (512 * (t.val % 16) + (R : ℕ)) % 128 = R % 128 := by omega
  simp only [blockScore, score, e1, e2, Nat.add_assoc]
  by_cases hin : inside (512 * (t.val % 16) + (128 * (R / 128) + k))
  · simp only [if_pos hin]
    simp only [keys_read m c t ⟨128 * (R / 128) + k, by omega⟩ _ ht hin]
    refine congrArg₂ (· + ·) (Finset.sum_congr rfl fun d _ => congrArg₂ (· * ·) ?_ rfl) ?_
    · blk_point [iblk, idx t]
    · blk_point [iblk, idx t]
  · simp only [if_neg hin]

/-- What point `t` leaves at `y` of its block is `result` at the block's place. -/
theorem block_eq (c : Dev nD) (t : Fin cfg0.N) (ht : t.val < 128) (y : S1x512x512.Idx) (h1 : (y 1 : ℕ) < 512) :
    outsAt0 m c t y
      = result (m ((c : Thread nD τ).loc main_arg0)) (m ((c : Thread nD τ).loc main_arg1)) (m ((c : Thread nD τ).loc main_arg2))
          (V m c main_v7) (m ((c : Thread nD τ).loc main_arg4))
          (ix3 (⟨t / 16, by omega⟩ : Fin 8) (⟨512 * (t.val % 16) + y 1, by omega⟩ : Fin 8192) (y 2 : Fin 512)) := by
  have e1 (k : Fin 384) : 128 * ((512 * (t.val % 16) + (y 1 : ℕ)) / 128) + k = 512 * (t.val % 16) + (128 * (y 1 / 128) + k) := by omega
  have h2 : (y 2 : ℕ) < 512 := (y 2).isLt
  rw [outsAt_apply, coord]
  simp only [blockOut, result]
  have es : blockScore (t.val % 16) (iblk m c 1 t) (k0_pay1 (F := Ideal) (iblk m c 2 t) (iblk m c 3 t) (iblk m c 4 t)) (iblk m c 8 t)
      (y 1) ⟨y 2 / 64, by omega⟩ = _ := funext fun k => score_read m c t ht (y 1) ⟨y 2 / 64, by omega⟩ k
  have ek : (iblk m c 0 t : FVec Ideal S8 .f32) (ix1 ⟨y 2 / 64, by omega⟩)
      = (m ((c : Thread nD τ).loc main_arg4) : FVec Ideal S8 .f32) (ix1 ⟨y 2 / 64, by omega⟩) := by
    blk_point [iblk, V, idx t]
  refine (congrArg₂ (fun s k => attend s k _) es ek).trans (attend_congr _ _ _ _ fun k => ?_)
  by_cases hin : inside (512 * (t.val % 16) + (128 * (y 1 / 128) + k))
  · refine .inr ((vals_read m c t ⟨128 * (y 1 / 128) + k, by omega⟩ _ ht hin).trans ?_)
    show padded _ _ _ _ = padded _ _ (128 * ((512 * (t.val % 16) + (y 1 : ℕ)) / 128) + k) _
    rw [e1]
    rfl
  · refine .inl ?_
    simp only [score, e1, if_neg hin]

/-- The result array after the run. -/
theorem final (c : Dev nD) : (dats m 0 c).arrAt 9 cfg0.N
    = result (m ((c : Thread nD τ).loc main_arg0)) (m ((c : Thread nD τ).loc main_arg1)) (m ((c : Thread nD τ).loc main_arg2))
        (V m c main_v7) (m ((c : Thread nD τ).loc main_arg4)) := by
  refine (dats m 0 c).arrAt_eq_of_covers 9 _ (by decide +kernel) fun t _ y => ?_
  blk_simp
  have ht : t.val < 128 := t.isLt
  have h1 : ((y : S1x512x512.Idx) 1 : ℕ) < 512 := ((y : S1x512x512.Idx) 1).isLt
  rw [after0_9, block_eq m c t ht y h1]
  refine congrArg (result _ _ _ _ _) ?_
  blk_ext [idx t]

end Cert.KernelIdeal.Attn

end
-- ==== Proof.AttnReference.lean ====
module

public import proofs.«01_k».proof.Proof.AttnArray
public import proofs.«01_k».proof.Proof.Gen.ReferenceIdeal.Run
public import Idealize.ShloMosaic.Lib.Pipeline.ValueKit

@[expose] public section
set_option maxRecDepth 16384
noncomputable section

/-! What the reference's attention computes, over its argument arrays, in the terms in which the kernel's result is stated. -/

namespace Cert.ReferenceIdeal.Attn
open Cert.ReferenceIdeal Cert.ReferenceIdeal.Gen Idealize.ShloMosaic Idealize.ShloMosaic.TcCoe Idealize.SL.Sem
open Cert.AttnMath Cert.KernelIdeal.Attn

/-- The sequence's rows in blocks of 128, a block of zeros before them and one after. -/
def blocks (X : FVec Ideal S8x8192x128 .bf16) : FVec Ideal S8x66x128x2x64 .f32 :=
  (shapeCast _ (pad S8x8448x2x64 ![0, 128, 0, 0] ![0, 128, 0, 0] ![0, 0, 0, 0] (shapeCast _ (extf .f32 X bitsLt_bf16_f32) shapeCasts_S8x8192x128_S8x8192x2x64) (sitofp .f32 (constantI S_ 32 0#32)) pads_S8x8192x2x64_S8x8448x2x64_000_1281280_000_000 h_S_) shapeCasts_S8x8448x2x64_S8x66x128x2x64)

/-- The windows of 384 rows around each block of 128, with zeros beyond the ends of the sequence. -/
def windows (X : FVec Ideal S8x8192x128 .bf16) : FVec Ideal S8x64x384x2x64 .f32 :=
  (concatenate S8x64x384x2x64 2 [⟨S8x64x128x2x64, ((extractStridedSlice S8x64x128x2x64 ![0, 0, 0, 0, 0] (blocks X) slices_S8x66x128x2x64_S8x64x128x2x64_0_0_0_0_0) : (⟨S8x64x128x2x64, .f32⟩ : BufTy).Contents (Elt Ideal))⟩, ⟨S8x64x128x2x64, ((extractStridedSlice S8x64x128x2x64 ![0, 1, 0, 0, 0] (blocks X) slices_S8x66x128x2x64_S8x64x128x2x64_0_1_0_0_0) : (⟨S8x64x128x2x64, .f32⟩ : BufTy).Contents (Elt Ideal))⟩, ⟨S8x64x128x2x64, ((extractStridedSlice S8x64x128x2x64 ![0, 2, 0, 0, 0] (blocks X) slices_S8x66x128x2x64_S8x64x128x2x64_0_2_0_0_0) : (⟨S8x64x128x2x64, .f32⟩ : BufTy).Contents (Elt Ideal))⟩] concatenates_S8x64x128x2x64_S8x64x128x2x64_S8x64x128x2x64_S8x64x384x2x64_d2 : (⟨S8x64x384x2x64, .f32⟩ : BufTy).Contents (Elt Ideal))

/-- Which window positions a query sees: those of the sequence, within the band. -/
def valid  : IVec S8x64x2x4x128x384 1 :=
  (broadcastInDim S8x64x2x4x128x384 ![0, 1, 2, 3, 4, 5] bcast_S1x64x1x1x128x384_S8x64x2x4x128x384_0_1_2_3_4_5 (broadcastInDim S1x64x1x1x128x384 ![1, 4, 5] bcast_S64x128x384_S1x64x1x1x128x384_1_4_5 (andi (broadcastInDim S64x128x384 ![0, 1, 2] bcast_S1x128x384_S64x128x384_0_1_2 (broadcastInDim S1x128x384 ![1, 2] bcast_S128x384_S1x128x384_1_2 ((fun i => lit1 (S128x384.rowMajor i))))) (broadcastInDim S64x128x384 ![0, 1, 2] bcast_S64x1x384_S64x128x384_0_1_2 (broadcastInDim S64x1x384 ![0, 2] bcast_S64x384_S64x1x384_0_2 (andi (cmpi .sge (subi (addi (broadcastInDim S64x384 ![0, 1] bcast_S64x1_S64x384_0_1 (muli (broadcastInDim S64x1 ![0] bcast_S64_S64x1_0 (iotaInDim S64 32 0)) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))) (broadcastInDim S64x384 ![] bcast_S_S64x384 (constantI S_ 32 128#32))) (broadcastInDim S64x384 ![] bcast_S_S64x384 (constantI S_ 32 0#32))) (cmpi .slt (subi (addi (broadcastInDim S64x384 ![0, 1] bcast_S64x1_S64x384_0_1 (muli (broadcastInDim S64x1 ![0] bcast_S64_S64x1_0 (iotaInDim S64 32 0)) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))) (broadcastInDim S64x384 ![] bcast_S_S64x384 (constantI S_ 32 128#32))) (broadcastInDim S64x384 ![] bcast_S_S64x384 (constantI S_ 32 8192#32)))))))))

/-- The bias of every logit. -/
def bias (rb : FVec Ideal S32x8 .f32) : FVec Ideal S8x64x2x4x128x384 .f32 :=
  (broadcastInDim S8x64x2x4x128x384 ![0, 1, 2, 3, 4, 5] bcast_S1x1x2x4x128x384_S8x64x2x4x128x384_0_1_2_3_4_5 (broadcastInDim S1x1x2x4x128x384 ![2, 3, 4, 5] bcast_S2x4x128x384_S1x1x2x4x128x384_2_3_4_5 (shapeCast _ (transpose S8x128x384 [2, 0, 1] (Host.gather gather_S32x8_S128x384x1_S128x384x8_2_0_n_n_0_2_18 rb (broadcastInDim S128x384x1 ![0, 1] bcast_S128x384_S128x384x1_0_1 (select (constantI S128x384 1 0#1) (addi ((fun i => lit0 (S128x384.rowMajor i))) (broadcastInDim S128x384 ![] bcast_S_S128x384 (constantI S_ 32 32#32))) ((fun i => lit0 (S128x384.rowMajor i)))))) transposes_S128x384x8_S8x128x384_2_0_1) shapeCasts_S8x128x384_S2x4x128x384)))

/-- The masked logits. -/
def logits (Q : FVec Ideal S8x8192x512 .bf16) (K : FVec Ideal S8x8192x128 .bf16) (rb : FVec Ideal S32x8 .f32) : FVec Ideal S8x64x2x4x128x384 .f32 :=
  (select valid (addf (transpose S8x64x2x4x128x384 [0, 1, 2, 5, 4, 3] (Host.dotGeneral dot_S8x64x384x2x64_S8x64x128x2x4x64_S8x64x2x384x128x4_4_5_2_24_013_013 none ((windows K)) (shapeCast _ (extf .f32 Q bitsLt_bf16_f32) shapeCasts_S8x8192x512_S8x64x128x2x4x64)) transposes_S8x64x2x384x128x4_S8x64x2x4x128x384_0_1_2_5_4_3) (bias rb)) (broadcastInDim S8x64x2x4x128x384 ![] bcast_S_S8x64x2x4x128x384 (id (constant S_ .f32 0xFF800000#32))))

/-- The sink of each query's head. -/
def sinks (snk : FVec Ideal S8 .f32) : FVec Ideal S8x64x2x4x128 .f32 :=
  (broadcastInDim S8x64x2x4x128 ![0, 1, 2, 3, 4] bcast_S1x1x2x4x1_S8x64x2x4x128_0_1_2_3_4 (broadcastInDim S1x1x2x4x1 ![2, 3, 4] bcast_S2x4x1_S1x1x2x4x1_2_3_4 (shapeCast _ snk shapeCasts_S8_S2x4x1)))

/-- The largest of a query's logits and its head's sink. -/
def tops (L : FVec Ideal S8x64x2x4x128x384 .f32) (snk : FVec Ideal S8 .f32) : FVec Ideal S8x64x2x4x128 .f32 :=
  (maximumf (Host.reduce FloatOps.maximumf L (constant S_ .f32 0xFF800000#32) reducesTo_S8x64x2x4x128x384_S8x64x2x4x128_d5 h_S_) (sinks snk))

/-- The weights before normalisation. -/
def weights (L : FVec Ideal S8x64x2x4x128x384 .f32) (T : FVec Ideal S8x64x2x4x128 .f32) : FVec Ideal S8x64x2x4x128x384 .f32 :=
  (Host.exp (subf L (broadcastInDim S8x64x2x4x128x384 ![0, 1, 2, 3, 4, 5] bcast_S8x64x2x4x128x1_S8x64x2x4x128x384_0_1_2_3_4_5 (broadcastInDim S8x64x2x4x128x1 ![0, 1, 2, 3, 4] bcast_S8x64x2x4x128_S8x64x2x4x128x1_0_1_2_3_4 T))))

/-- The sum of a query's weights, the sink's included. -/
def masses (P : FVec Ideal S8x64x2x4x128x384 .f32) (T : FVec Ideal S8x64x2x4x128 .f32) (snk : FVec Ideal S8 .f32) : FVec Ideal S8x64x2x4x128 .f32 :=
  (addf (Host.reduceAdd P (constant S_ .f32 0x00000000#32) reducesTo_S8x64x2x4x128x384_S8x64x2x4x128_d5 h_S_) (Host.exp (subf (sinks snk) T)))

/-- The weighted sums of the values, by the normalised weights. -/
def output (P : FVec Ideal S8x64x2x4x128x384 .f32) (D : FVec Ideal S8x64x2x4x128 .f32) (W : FVec Ideal S8x64x384x2x64 .f32) : FVec Ideal S8x8192x512 .bf16 :=
  truncf .bf16 (shapeCast _ (transpose S8x64x128x2x4x64 [0, 1, 5, 2, 4, 3] (Host.dotGeneral dot_S8x64x384x2x64_S8x64x2x4x128x384_S8x64x2x64x4x128_2_5_4_34_013_012 none (W) (Host.divf P (broadcastInDim S8x64x2x4x128x384 ![0, 1, 2, 3, 4, 5] bcast_S8x64x2x4x128x1_S8x64x2x4x128x384_0_1_2_3_4_5 (broadcastInDim S8x64x2x4x128x1 ![0, 1, 2, 3, 4] bcast_S8x64x2x4x128_S8x64x2x4x128x1_0_1_2_3_4 D)))) transposes_S8x64x2x64x4x128_S8x64x128x2x4x64_0_1_5_2_4_3) shapeCasts_S8x64x128x2x4x64_S8x8192x512) bitsLt_bf16_f32

/-- The whole computation, from the argument arrays. -/
def attention (Q : FVec Ideal S8x8192x512 .bf16) (K V : FVec Ideal S8x8192x128 .bf16) (rb : FVec Ideal S32x8 .f32)
    (snk : FVec Ideal S8 .f32) : FVec Ideal S8x8192x512 .bf16 :=
  let L := logits Q K rb
  let T := tops L snk
  let P := weights L T
  output P (masses P T snk) (windows V)

variable (m : (ℓ : Loc nD τ sig) → Buf (Elt Ideal) ℓ)

/-- The program's result is that computation. -/
theorem term_eq (c : Dev nD) : Value.res_main_v74 m c
    = attention (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  unfold Value.res_main_v74 attention output masses weights tops sinks logits bias valid windows blocks
  rfl

/-- The blocks hold the rows of the padded sequence. -/
theorem blocks_apply (X : FVec Ideal S8x8192x128 .bf16) (b : Fin 8) (n : Fin 66) (r : Fin 128) (g : Fin 2) (d : Fin 64) :
    blocks X (ix5 b n r g d) = padded X b (128 * n + r) ⟨64 * g + d, by omega⟩ := by
  pointwise [blocks, padded]
  by_cases h : inside (128 * n + r)
  · rw [dif_pos h, dif_pos (by unfold inside at h; omega)]
    refine congrArg X ?_
    blk_ext
  · rw [dif_neg h, dif_neg (by unfold inside at h; omega)]
    simp [FloatOps.sitofp]

/-- A window holds 384 consecutive rows of the padded sequence. -/
theorem windows_apply (X : FVec Ideal S8x8192x128 .bf16) (b : Fin 8) (n : Fin 64) (c : Fin 384) (g : Fin 2) (d : Fin 64) :
    windows X (ix5 b n c g d) = padded X b (128 * n + c) ⟨64 * g + d, by omega⟩ := by
  pointwise [windows]
  simp only [blocks_apply]
  split_ifs
  · rfl
  · exact congrArg (padded X b · _) (by omega)
  · exact congrArg (padded X b · _) (by omega)

/-- The comparisons of positions against the sequence's ends, as a truth value. -/
theorem inside_word : ∀ n : Fin 64, ∀ c : Fin 384,
    IntOp.andi
      (IntOp.cmpi .sge (IntOp.subi (IntOp.addi (IntOp.muli (BitVec.ofNat 32 n.val) 128#32) (BitVec.ofNat 32 c.val)) 128#32) 0#32)
      (IntOp.cmpi .slt (IntOp.subi (IntOp.addi (IntOp.muli (BitVec.ofNat 32 n.val) 128#32) (BitVec.ofNat 32 c.val)) 128#32) 8192#32)
    = if KernelIdeal.Attn.inside (128 * n + c) then 1#1 else 0#1 := by
  decide +kernel

/-- A position is seen when it lies in the band and inside the sequence. -/
theorem valid_apply (b : Fin 8) (n : Fin 64) (g : Fin 2) (q : Fin 4) (r : Fin 128) (c : Fin 384) :
    valid (ix6 b n g q r c) = IntOp.andi (lit1 (S128x384.rowMajor (ix2 r c))) (if KernelIdeal.Attn.inside (128 * n + c) then 1#1 else 0#1) := by
  rw [← inside_word n c]
  pointwise [valid]

/-- A logit's bias is its head's entry of the looked-up table. -/
theorem bias_apply (rb : FVec Ideal S32x8 .f32) (b : Fin 8) (n : Fin 64) (g : Fin 2) (q : Fin 4) (r : Fin 128) (c : Fin 384) :
    bias rb (ix6 b n g q r c) = KernelIdeal.Attn.gathered rb (ix3 r c ⟨4 * g + q, by omega⟩) := by
  pointwise [bias]
  have e : (⟨g * 4 + q, by omega⟩ : Fin 8) = ⟨4 * g + q, by omega⟩ := Fin.ext (by show g.val * 4 + q.val = 4 * g.val + q.val; omega)
  rw [e]
  rfl

/-- The logits of one query and head are those at the six coordinates with the last one free. -/
theorem fiber (b : Fin 8) (n : Fin 64) (g : Fin 2) (q : Fin 4) (r : Fin 128) (i : S8x64x2x4x128x384.Idx) :
    reducesTo_S8x64x2x4x128x384_S8x64x2x4x128_d5.drop i = ix5 b n g q r ↔ ∃ c : Fin 384, ix6 b n g q r c = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    match a with
    | ⟨0, _⟩ => rfl
    | ⟨1, _⟩ => rfl
    | ⟨2, _⟩ => rfl
    | ⟨3, _⟩ => rfl
    | ⟨4, _⟩ => rfl

/-- The order in which a head's number is computed does not matter. -/
theorem head_eq (g : Fin 2) (q : Fin 4) : (⟨g * 4 + q, by omega⟩ : Fin 8) = ⟨4 * g + q, by omega⟩ :=
  Fin.ext (by show g.val * 4 + q.val = 4 * g.val + q.val; omega)

/-- The sink of a query is its head's. -/
theorem sinks_apply (snk : FVec Ideal S8 .f32) (b : Fin 8) (n : Fin 64) (g : Fin 2) (q : Fin 4) (r : Fin 128) :
    sinks snk (ix5 b n g q r) = snk (ix1 ⟨4 * g + q, by omega⟩) := by
  pointwise [sinks]
  rw [head_eq]

/-- A reduction by maximum, entry by entry. -/
theorem max_reduce {s t u : Shape} {axes : List (Fin s.rank)} (x : FVec Ideal s .f32) (init : FVec Ideal u .f32)
    (h : s.ReducesTo axes t) (hu : 0 < u.numel) (a : FVec Ideal t .f32) (j : t.Idx) :
    maximumf (Host.reduce FloatOps.maximumf x init h hu) a j
      = max ((Finset.univ.filter fun i => h.drop i = j).fold max (init (Shape.Idx.first hu)) x) (a j) :=
  congrArg (max · (a j)) (Host.reduce_eq_fold (max : EReal → EReal → EReal) x init h hu j)

/-- The largest logit of a query and head, as the kernel's statement has it. -/
theorem tops_apply (L : FVec Ideal S8x64x2x4x128x384 .f32) (snk : FVec Ideal S8 .f32) (b : Fin 8) (n : Fin 64) (g : Fin 2)
    (q : Fin 4) (r : Fin 128) :
    tops L snk (ix5 b n g q r) = top (fun c => L (ix6 b n g q r c)) (snk (ix1 ⟨4 * g + q, by omega⟩)) := by
  rw [← sinks_apply snk b n g q r]
  unfold tops top
  rw [max_reduce, Finset.fold_filter_eq_fold_of_fiber max _ (fun c : Fin 384 => ix6 b n g q r c) (fun _ _ e => congrFun e 5)
    (fiber b n g q r)]
  rfl

/-- The sum of the weights of a query and head. -/
theorem masses_apply (P : FVec Ideal S8x64x2x4x128x384 .f32) (T : FVec Ideal S8x64x2x4x128 .f32) (snk : FVec Ideal S8 .f32)
    (b : Fin 8) (n : Fin 64) (g : Fin 2) (q : Fin 4) (r : Fin 128) :
    masses P T snk (ix5 b n g q r)
      = (∑ c : Fin 384, P (ix6 b n g q r c)) + Ideal.exp (snk (ix1 ⟨4 * g + q, by omega⟩) - T (ix5 b n g q r)) := by
  rw [← sinks_apply snk b n g q r]
  pointwise [masses]
  unfold Ideal.hostReduceAdd
  rw [Finset.sum_filter_eq_sum_of_fiber _ (fun c : Fin 384 => ix6 b n g q r c) (fun _ _ e => congrFun e 5) (fiber b n g q r), zero_add]

/-- The weight of a position. -/
theorem weights_apply (L : FVec Ideal S8x64x2x4x128x384 .f32) (T : FVec Ideal S8x64x2x4x128 .f32) (b : Fin 8) (n : Fin 64)
    (g : Fin 2) (q : Fin 4) (r : Fin 128) (c : Fin 384) :
    weights L T (ix6 b n g q r c) = Ideal.exp (L (ix6 b n g q r c) - T (ix5 b n g q r)) := by
  pointwise [weights]

/-- The masked logits are the kernel's: where the band excludes a position the kernel adds minus infinity. -/
theorem logits_apply (Q : FVec Ideal S8x8192x512 .bf16) (K : FVec Ideal S8x8192x128 .bf16) (rb : FVec Ideal S32x8 .f32)
    (b : Fin 8) (n : Fin 64) (g : Fin 2) (q : Fin 4) (r : Fin 128) (c : Fin 384) :
    logits Q K rb (ix6 b n g q r c) = score Q K (biasTerm rb) b ⟨128 * n + r, by omega⟩ ⟨4 * g + q, by omega⟩ c := by
  have eq1 : (128 * n.val + r.val) / 128 = n := by omega
  have eq2 : (⟨(128 * n.val + r.val) % 128, by omega⟩ : Fin 128) = r := Fin.ext (by show (128 * n.val + r.val) % 128 = r.val; omega)
  have eq3 : (4 * g.val + q.val) / 4 = g := by omega
  have hl : KernelIdeal.lit1 = lit1 := rfl
  have hb : Ideal.ofBits .f32 0xFF800000#32 = ⊥ := minus_infinity
  pointwise [logits, score, biasTerm]
  simp only [windows_apply, valid_apply, bias_apply, eq1, eq2, eq3, hl]
  have hs : (∑ x : Fin 64, padded K b (128 * n + c) ⟨64 * g + x, by omega⟩
        * Q (ix3 b ⟨n * 128 + r, by omega⟩ ⟨g * 256 + q * 64 + x, by omega⟩))
      = ∑ x : Fin 64, Q (ix3 b ⟨128 * n + r, by omega⟩ ⟨64 * (4 * g + q) + x, by omega⟩)
        * padded K b (128 * n + c) ⟨64 * g + x, by omega⟩ := by
    refine Finset.sum_congr rfl fun x _ => (mul_comm _ _).trans (congrArg (· * _) ?_)
    blk_ext
  rw [hs]
  generalize (∑ x : Fin 64, Q (ix3 b ⟨128 * n + r, by omega⟩ ⟨64 * (4 * g + q) + x, by omega⟩)
        * padded K b (128 * n + c) ⟨64 * g + x, by omega⟩) = z
  have hc : (id (constant S_ .f32 0xFF800000#32) : FVec Ideal S_ .f32) ix0 = ⊥ := hb
  rw [hc, hb]
  show _ = if inside (128 * n + c) then z + Scalar.select (lit1 (S128x384.rowMajor (ix2 r c))) _ ⊥ else ⊥
  generalize gathered rb (ix3 r c ⟨4 * g + q, by omega⟩) = w
  rcases BitVec.eq_zero_or_eq_one (lit1 (S128x384.rowMajor (ix2 r c))) with h | h <;> rw [h] <;> split_ifs with hi
  · exact (EReal.add_bot z).symm
  · rfl
  · rfl
  · rfl

/-- A result entry before its terms are read. -/
theorem output_apply (P : FVec Ideal S8x64x2x4x128x384 .f32) (D : FVec Ideal S8x64x2x4x128 .f32)
    (W : FVec Ideal S8x64x384x2x64 .f32) (b : Fin 8) (S : Fin 8192) (z : Fin 512) :
    output P D W (ix3 b S z)
      = ∑ c : Fin 384, W (ix5 b ⟨S / 128, by omega⟩ c ⟨z / 256, by omega⟩ ⟨z % 64, by omega⟩)
        * Ideal.div (P (ix6 b ⟨S / 128, by omega⟩ ⟨z / 256, by omega⟩ ⟨z / 64 % 4, by omega⟩ ⟨S % 128, by omega⟩ c))
          (D (ix5 b ⟨S / 128, by omega⟩ ⟨z / 256, by omega⟩ ⟨z / 64 % 4, by omega⟩ ⟨S % 128, by omega⟩)) := by
  pointwise [output]

/-- A result entry: the values weighted by their parts of the sum of the weights. -/
theorem attention_apply (Q : FVec Ideal S8x8192x512 .bf16) (K V : FVec Ideal S8x8192x128 .bf16) (rb : FVec Ideal S32x8 .f32)
    (snk : FVec Ideal S8 .f32) (b : Fin 8) (S : Fin 8192) (z : Fin 512) :
    attention Q K V rb snk (ix3 b S z)
      = attendParts (score Q K (biasTerm rb) b S ⟨z / 64, by omega⟩) (snk (ix1 ⟨z / 64, by omega⟩))
        fun c => padded V b (128 * (S / 128) + c) ⟨64 * (z / 64 / 4) + z % 64, by omega⟩ := by
  have e1 : (⟨128 * ((S : ℕ) / 128) + (S : ℕ) % 128, by omega⟩ : Fin 8192) = S :=
    Fin.ext (by show 128 * ((S : ℕ) / 128) + (S : ℕ) % 128 = S; omega)
  have e2 : (⟨4 * ((z : ℕ) / 256) + (z : ℕ) / 64 % 4, by omega⟩ : Fin 8) = ⟨z / 64, by omega⟩ :=
    Fin.ext (by show 4 * ((z : ℕ) / 256) + (z : ℕ) / 64 % 4 = (z : ℕ) / 64; omega)
  have e3 : (⟨64 * ((z : ℕ) / 256) + (z : ℕ) % 64, by omega⟩ : Fin 128) = ⟨64 * (z / 64 / 4) + z % 64, by omega⟩ :=
    Fin.ext (by show 64 * ((z : ℕ) / 256) + (z : ℕ) % 64 = 64 * ((z : ℕ) / 64 / 4) + (z : ℕ) % 64; omega)
  unfold attention
  refine (output_apply _ _ _ b S z).trans ?_
  simp only [masses_apply, weights_apply, tops_apply, logits_apply, windows_apply, e1, e2, e3]
  exact Finset.sum_congr rfl fun c _ => mul_comm _ _

end Cert.ReferenceIdeal.Attn

end
-- ==== Proof.AttnFinite.lean ====
module

public import proofs.«01_k».proof.Defs
public import proofs.«01_k».proof.Proof.AttnArray

@[expose] public section

set_option maxRecDepth 16384

noncomputable section

/-! Under the precondition no logit is `⊤`. -/

namespace Cert.KernelIdeal.Attn

open Cert.KernelIdeal Cert.KernelIdeal.Gen Idealize.ShloMosaic Idealize.ShloMosaic.TcCoe Idealize.SL.Sem
open Cert.AttnMath

/-- An extended real that is a real number. -/
def IsReal (x : EReal) : Prop := x ≠ ⊤ ∧ x ≠ ⊥

/-- What the precondition compares: a number of finite magnitude is real. -/
theorem real_of_abs {x t : EReal} (ht : t = ⊤) (h : Ideal.cmp .olt (max x (-x)) t = 1#1) : IsReal x := by
  subst ht
  have hl : max x (-x) < ⊤ := by
    by_contra hn
    simp [Ideal.cmp, hn] at h
  refine ⟨fun e => ?_, fun e => ?_⟩ <;> subst e <;> simp at hl

/-- The side conditions of the precondition's operations. -/
theorem preFacts : Cert.Pre_finite.Facts where
  bcast_S_S8x8192x512 := by decide
  bcast_S_S8x8192x128 := by decide
  bcast_S_S32x8 := by decide
  bcast_S_S8 := by decide

/-- The words of infinity read as `⊤`. -/
theorem infinity : Ideal.ofBits .f32 0x7F800000#32 = ⊤ ∧ Ideal.ofBits .bf16 0x7F80#16 = ⊤ := by
  simp [Ideal.ofBits, Ideal.ieee]

/-- The precondition says that the entries of `Q`, `K`, the bias table and the sinks are real numbers. -/
theorem reals (Q : FVec Ideal S8x8192x512 .bf16) (K V : FVec Ideal S8x8192x128 .bf16) (rb : FVec Ideal S32x8 .f32)
    (snk : FVec Ideal S8 .f32)
    (h : letI := preFacts
      (Cert.Pre_finite.fn Q K V rb snk).1 = (fun _ => 1#1) ∧ (Cert.Pre_finite.fn Q K V rb snk).2.1 = (fun _ => 1#1)
      ∧ (Cert.Pre_finite.fn Q K V rb snk).2.2.1 = (fun _ => 1#1) ∧ (Cert.Pre_finite.fn Q K V rb snk).2.2.2 = (fun _ => 1#1)) :
    (∀ i, IsReal (Q i)) ∧ (∀ i, IsReal (K i)) ∧ (∀ i, IsReal (rb i)) ∧ ∀ i, IsReal (snk i) :=
  ⟨fun i => real_of_abs infinity.2 (congrFun h.1 i), fun i => real_of_abs infinity.2 (congrFun h.2.1 i),
    fun i => real_of_abs infinity.1 (congrFun h.2.2.1 i), fun i => real_of_abs infinity.1 (congrFun h.2.2.2 i)⟩

/-- A sum of products of real numbers is real. -/
theorem sum_real {ι : Type*} (t : Finset ι) (f g : ι → EReal) (hf : ∀ i, IsReal (f i)) (hg : ∀ i, IsReal (g i)) :
    IsReal (∑ i ∈ t, f i * g i) := by
  have ef : ∀ i, ((f i).toReal : EReal) = f i := fun i => EReal.coe_toReal (hf i).1 (hf i).2
  have eg : ∀ i, ((g i).toReal : EReal) = g i := fun i => EReal.coe_toReal (hg i).1 (hg i).2
  have e : ∑ i ∈ t, f i * g i = ((∑ i ∈ t, (f i).toReal * (g i).toReal : ℝ) : EReal) := by
    rw [← coe_sum]
    exact Finset.sum_congr rfl fun i _ => by rw [EReal.coe_mul, ef, eg]
  rw [e]
  exact ⟨EReal.coe_ne_top _, EReal.coe_ne_bot _⟩

/-- A padded sequence's rows are real when the sequence's are. -/
theorem padded_real (X : FVec Ideal S8x8192x128 .bf16) (h : ∀ i, IsReal (X i)) (b : Fin 8) (p : ℕ) (d : Fin 128) :
    IsReal (padded X b p d) := by
  unfold padded
  split_ifs
  · exact h _
  · exact ⟨EReal.zero_ne_top, EReal.zero_ne_bot⟩

/-- A looked-up bias is an entry of the table. -/
theorem gathered_mem (rb : FVec Ideal S32x8 .f32) (j : S128x384x8.Idx) : ∃ i, gathered rb j = rb i := ⟨_, rfl⟩

/-- An entry of the bias table is not `⊤`. -/
theorem biasTerm_ne_top (rb : FVec Ideal S32x8 .f32) (h : ∀ i, IsReal (rb i)) (x : S8x128x384.Idx) : biasTerm rb x ≠ ⊤ := by
  pointwise [biasTerm]
  obtain ⟨i, e⟩ := gathered_mem rb (ix3 (x 1) (x 2) (x 0))
  have hb := minus_infinity
  rcases BitVec.eq_zero_or_eq_one (lit1 (S128x384.rowMajor (ix2 (x 1) (x 2)))) with w | w <;> rw [w]
  · exact fun e' => bot_ne_top (hb.symm.trans e')
  · exact fun e' => (h i).1 (e.symm.trans e')

/-- No logit is `⊤`. -/
theorem score_ne_top (Q : FVec Ideal S8x8192x512 .bf16) (K : FVec Ideal S8x8192x128 .bf16) (rb : FVec Ideal S32x8 .f32)
    (hQ : ∀ i, IsReal (Q i)) (hK : ∀ i, IsReal (K i)) (hrb : ∀ i, IsReal (rb i)) (b : Fin 8) (S : Fin 8192) (h : Fin 8) (c : Fin 384) :
    score Q K (biasTerm rb) b S h c ≠ ⊤ := by
  unfold score
  split_ifs
  · exact (EReal.add_lt_top (sum_real _ _ _ (fun _ => hQ _) fun _ => padded_real K hK _ _ _).1 (biasTerm_ne_top rb hrb _)).ne
  · exact bot_ne_top

end Cert.KernelIdeal.Attn

end
-- ==== Proof.FfnBlock.lean ====
module

public import proofs.«01_k».proof.Proof.RowMath
public import proofs.«01_k».proof.Proof.Gen.Kernel2Ideal.Value
public import Idealize.ShloMosaic.Lib.Pipeline.ValueKit

@[expose] public section

set_option maxRecDepth 16384

noncomputable section

/-! What one grid point of the feed-forward kernel computes: the 1024 rows of its block, each by `RowMath.ffnRow`. -/

namespace Cert.Kernel2Ideal.Ffn

open Cert.Kernel2Ideal Cert.Kernel2Ideal.Gen Idealize.ShloMosaic Idealize.ShloMosaic.TcCoe Idealize.SL.Sem
open Cert.RowMath

/-- The hidden units of a block of rows. -/
def hiddenBlk (X : FVec Ideal S1024x1024 .f32) (WG WU : FVec Ideal S1024x2816 .bf16) : FVec Ideal S1024x2816 .bf16 :=
  fun i => ffnHidden (fun k => X (ix2 (i 0) k)) (fun k f => WG (ix2 k f)) (fun k f => WU (ix2 k f)) (i 1)

/-- One chunk of 256 hidden units, computed from the weights' columns starting at `o`, is that window of `hiddenBlk`. -/
theorem chunk_apply (X : FVec Ideal S1024x1024 .f32) (WG WU : FVec Ideal S1024x2816 .bf16) (o : ℕ)
    (inb : ∀ a, (![0, o] : Fin 2 → ℕ) a + (![1024, 256] : Fin 2 → ℕ) a ≤ S1024x2816.size a) (x : S1024x256.Idx) (y : S1024x2816.Idx)
    (h0 : (y 0 : ℕ) = x 0) (h1 : (y 1 : ℕ) = o + x 1) :
    k0_pay8 (F := Ideal) (k0_pay3 X) (View.ld WG (Rect.unit (s := S1024x2816) ![0, o] ![1024, 256] inb))
      (View.ld WU (Rect.unit (s := S1024x2816) ![0, o] ![1024, 256] inb)) x = hiddenBlk X WG WU y := by
  pointwise [k0_pay8, k0_pay3, k0_pay2, hiddenBlk, ffnHidden, sigmoid]
  blk_point []

/-! The other chunks are the same computation, named in other pieces. -/

theorem pay4_eq (X : FVec Ideal S1024x1024 .f32) (a b) : k0_pay4 (F := Ideal) X a b = k0_pay8 (k0_pay3 X) a b := rfl
theorem pay7_eq (X : FVec Ideal S1024x1024 .f32) (a b) :
    k0_pay7 (k0_pay5 X b) (k0_pay6 X a) = k0_pay8 (F := Ideal) (k0_pay3 X) a b := rfl
theorem pay13_eq (X) (a b) : k0_pay13 (k0_pay9 X a) (k0_pay10 X b) (k0_pay11 X a) k0_pay12 = k0_pay8 (F := Ideal) X a b := rfl
theorem pay14_eq (X) (a b) : k0_pay14 X a b = k0_pay8 (F := Ideal) X a b := rfl
theorem pay18_eq (X) (a b) : k0_pay18 (k0_pay15 X a) (k0_pay16 X b) (k0_pay17 X a) = k0_pay8 (F := Ideal) X a b := rfl
theorem pay19_eq (X) (a b) : k0_pay19 X a b = k0_pay8 (F := Ideal) X a b := rfl
theorem pay23_eq (X) (a b) : k0_pay23 (k0_pay20 X a) (k0_pay21 X b) (k0_pay22 X a) (FloatOps.ofBits FTy.f32 0x3F800000#32)
    = k0_pay8 (F := Ideal) X a b := rfl
theorem pay24_eq (X) (a b) : k0_pay24 X a b = k0_pay8 (F := Ideal) X a b := rfl
theorem pay28_eq (X) (a b) : k0_pay28 (k0_pay25 X a) (k0_pay26 X b) (k0_pay27 X a) = k0_pay8 (F := Ideal) X a b := rfl
theorem pay29_eq (X) (a b) : k0_pay29 X a b = k0_pay8 (F := Ideal) X a b := rfl

/-- The last step on a block of rows: the product with `w_down`, the residual sum and the layer normalisation. -/
theorem tail_apply (H : FVec Ideal S1024x2816 .bf16) (X : FVec Ideal S1024x1024 .f32) (W : FVec Ideal S2816x1024 .bf16)
    (G B : FVec Ideal S1x1024 .f32) (y : S1024x1024.Idx) :
    k0_pay1 (F := Ideal) (k0_pay30 H W) (k0_pay31 (k0_pay2 X)) (FloatOps.ofBits FTy.f32 0x3F000000#32) G B y
      = layerNorm (fun j => Ideal.ofBits .f32 0x3FB504F3#32 * X (ix2 (y 0) j)
          + Ideal.ofBits .f32 0x3F000000#32 * ∑ f, H (ix2 (y 0) f) * W (ix2 f j))
          (fun j => G (ix2 0 j)) (fun j => B (ix2 0 j)) (y 1) := by
  pointwise [k0_pay1, k0_pay30, k0_pay31, k0_pay2, layerNorm, mean]

variable (m : (ℓ : Loc nD τ sig) → Buf (Elt Ideal) ℓ)

/-- What point `t` leaves in the output block: each row is `ffnRow` of the row of the input block. -/
theorem outsAt_apply (c : Dev nD) (t : Fin cfg0.N) (y : S1024x1024.Idx) :
    outsAt0 m c t y = ffnRow (fun k => (show FVec Ideal S1024x1024 .f32 from iblk m c 0 t) (ix2 (y 0) k))
      (fun k f => (show FVec Ideal S1024x2816 .bf16 from iblk m c 1 t) (ix2 k f))
      (fun k f => (show FVec Ideal S1024x2816 .bf16 from iblk m c 2 t) (ix2 k f))
      (fun f j => (show FVec Ideal S2816x1024 .bf16 from iblk m c 3 t) (ix2 f j))
      (fun j => (show FVec Ideal S1x1024 .f32 from iblk m c 4 t) (ix2 0 j))
      (fun j => (show FVec Ideal S1x1024 .f32 from iblk m c 5 t) (ix2 0 j)) (y 1) := by
  unfold Gen.outsAt0
  frame_out
  refine (congrArg (fun H => k0_pay1 (F := Ideal) (k0_pay30 H (iblk m c 3 t)) (k0_pay31 (k0_pay2 (iblk m c 0 t)))
    (FloatOps.ofBits FTy.f32 0x3F000000#32) (iblk m c 4 t) (iblk m c 5 t) y)
    (?_ : _ = hiddenBlk (iblk m c 0 t) (iblk m c 1 t) (iblk m c 2 t))).trans (tail_apply _ _ _ _ _ y)
  simp only [pay4_eq, pay7_eq, pay13_eq, pay14_eq, pay18_eq, pay19_eq, pay23_eq, pay24_eq, pay28_eq, pay29_eq]
  rw [View.readCov_eq_canon']
  funext j
  refine (congrArg (View.canon _) (?_ : _ = j)).trans ?_
  · blk_ext <;> exact (Nat.zero_add _).trans (Nat.one_mul _)
  canon_tiles x h
  all_goals exact chunk_apply _ _ _ _ _ _ _ (by omega) (by omega)

end Cert.Kernel2Ideal.Ffn

end
-- ==== Proof.FfnArray.lean ====
module

public import proofs.«01_k».proof.Proof.FfnBlock

@[expose] public section

set_option maxRecDepth 16384

noncomputable section

/-! What the feed-forward kernel's result array holds after the run, over its argument arrays. -/

namespace Cert.Kernel2Ideal.Ffn

open Cert.Kernel2Ideal Cert.Kernel2Ideal.Gen Idealize.ShloMosaic Idealize.ShloMosaic.TcCoe Idealize.SL.Sem
open Cert.RowMath

/-- Row `i` of the 8 × 8192 rows taken one after the other. -/
def rowOf (i : Fin 65536) : Fin 8 × Fin 8192 := (⟨i / 8192, by omega⟩, ⟨i % 8192, by omega⟩)

/-- The feed-forward block on every row: entry `i` of the result. -/
def result (X : FVec Ideal S8x8192x1024 .f32) (WG WU : FVec Ideal S1024x2816 .f32) (WD : FVec Ideal S2816x1024 .f32)
    (G B : FVec Ideal S1024 .f32) : FVec Ideal S65536x1024 .f32 := fun i =>
  ffnRow (fun k => X (ix3 (rowOf (i 0)).1 (rowOf (i 0)).2 k)) (fun k f => WG (ix2 k f)) (fun k f => WU (ix2 k f))
    (fun f j => WD (ix2 f j)) (fun j => G (ix1 j)) (fun j => B (ix1 j)) (i 1)

/-- The windows' block indices: point `t` works on rows `1024 t` and on; weights, gain and offset come whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ)

theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, outsAt_apply]
  simp only [result, ffnRow, layerNorm, mean, ffnSum, ffnHidden]
  blk_point [iblk, V, idx t]
  all_goals simp only [rowOf]; blk_simp [idx t]

end Cert.Kernel2Ideal.Ffn

end
-- ==== Proof.FfnReference.lean ====
module

public import proofs.«01_k».proof.Proof.FfnArray
public import proofs.«01_k».proof.Proof.Gen.Reference2Ideal.Run

@[expose] public section

set_option maxRecDepth 16384

noncomputable section

/-! What the feed-forward reference computes. -/

namespace Cert.Reference2Ideal.Ffn

open Cert.Reference2Ideal Idealize.ShloMosaic Idealize.ShloMosaic.TcCoe Idealize.SL.Sem
open Cert.RowMath

variable (m : (ℓ : Loc nD τ sig) → Buf (Elt Ideal) ℓ)

theorem reference_eq (c : Dev nD) : Value.res_main_v34 m c
    = Cert.Kernel2Ideal.Ffn.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  pointwise [Value.res_main_v34, Cert.Kernel2Ideal.Ffn.result, ffnRow, layerNorm, mean, ffnSum, ffnHidden, sigmoid]
  simp only [zero_sub]
  blk_point [Cert.Kernel2Ideal.Ffn.rowOf]

end Cert.Reference2Ideal.Ffn

end
-- ==== Proof.Ffn4Array.lean ====
module

public import proofs.«01_k».proof.Proof.FfnArray
public import proofs.«01_k».proof.Proof.Gen.Kernel4Ideal.Value
public import Idealize.ShloMosaic.Lib.Pipeline.ValueKit

@[expose] public section

set_option maxRecDepth 16384

noncomputable section

/-! The feed-forward kernel over the shorter array of 4 × 8192 rows: what its result array holds after the run. One grid
    point computes what it computes in the calls over the longer array. -/

namespace Cert.Kernel4Ideal.Ffn

open Cert.Kernel4Ideal Cert.Kernel4Ideal.Gen Idealize.ShloMosaic Idealize.ShloMosaic.TcCoe Idealize.SL.Sem
open Cert.RowMath
open Cert.Kernel2Ideal.Ffn (hiddenBlk chunk_apply tail_apply)

/-! The chunks are those of the kernel over the longer array. -/

theorem pay3_eq (X : FVec Ideal S1024x1024 .f32) : k0_pay3 X = Kernel2Ideal.Gen.k0_pay3 (F := Ideal) X := rfl
theorem pay8_eq (X) (a b) : k0_pay8 X a b = Kernel2Ideal.Gen.k0_pay8 (F := Ideal) X a b := rfl
theorem pay4_eq (X : FVec Ideal S1024x1024 .f32) (a b) : k0_pay4 (F := Ideal) X a b = Kernel2Ideal.Gen.k0_pay8 (F := Ideal) (Kernel2Ideal.Gen.k0_pay3 X) a b := rfl
theorem pay7_eq (X : FVec Ideal S1024x1024 .f32) (a b) :
    k0_pay7 (k0_pay5 X b) (k0_pay6 X a) = Kernel2Ideal.Gen.k0_pay8 (F := Ideal) (Kernel2Ideal.Gen.k0_pay3 X) a b := rfl
theorem pay13_eq (X) (a b) : k0_pay13 (k0_pay9 X a) (k0_pay10 X b) (k0_pay11 X a) k0_pay12 = Kernel2Ideal.Gen.k0_pay8 (F := Ideal) X a b := rfl
theorem pay14_eq (X) (a b) : k0_pay14 X a b = Kernel2Ideal.Gen.k0_pay8 (F := Ideal) X a b := rfl
theorem pay18_eq (X) (a b) : k0_pay18 (k0_pay15 X a) (k0_pay16 X b) (k0_pay17 X a) = Kernel2Ideal.Gen.k0_pay8 (F := Ideal) X a b := rfl
theorem pay19_eq (X) (a b) : k0_pay19 X a b = Kernel2Ideal.Gen.k0_pay8 (F := Ideal) X a b := rfl
theorem pay23_eq (X) (a b) : k0_pay23 (k0_pay20 X a) (k0_pay21 X b) (k0_pay22 X a) (FloatOps.ofBits FTy.f32 0x3F800000#32)
    = Kernel2Ideal.Gen.k0_pay8 (F := Ideal) X a b := rfl
theorem pay24_eq (X) (a b) : k0_pay24 X a b = Kernel2Ideal.Gen.k0_pay8 (F := Ideal) X a b := rfl
theorem pay28_eq (X) (a b) : k0_pay28 (k0_pay25 X a) (k0_pay26 X b) (k0_pay27 X a) = Kernel2Ideal.Gen.k0_pay8 (F := Ideal) X a b := rfl
theorem pay29_eq (X) (a b) : k0_pay29 X a b = Kernel2Ideal.Gen.k0_pay8 (F := Ideal) X a b := rfl

variable (m : (ℓ : Loc nD τ sig) → Buf (Elt Ideal) ℓ)

/-- What point `t` leaves in the output block: each row is `ffnRow` of the row of the input block, as in the calls over
    the longer array, whose chunks and last step are the same. -/
theorem outsAt_apply (c : Dev nD) (t : Fin cfg0.N) (y : S1024x1024.Idx) :
    outsAt0 m c t y = ffnRow (fun k => (show FVec Ideal S1024x1024 .f32 from iblk m c 0 t) (ix2 (y 0) k))
      (fun k f => (show FVec Ideal S1024x2816 .bf16 from iblk m c 1 t) (ix2 k f))
      (fun k f => (show FVec Ideal S1024x2816 .bf16 from iblk m c 2 t) (ix2 k f))
      (fun f j => (show FVec Ideal S2816x1024 .bf16 from iblk m c 3 t) (ix2 f j))
      (fun j => (show FVec Ideal S1x1024 .f32 from iblk m c 4 t) (ix2 0 j))
      (fun j => (show FVec Ideal S1x1024 .f32 from iblk m c 5 t) (ix2 0 j)) (y 1) := by
  unfold Gen.outsAt0
  frame_out
  refine (congrArg (fun H => Kernel2Ideal.Gen.k0_pay1 (F := Ideal) (Kernel2Ideal.Gen.k0_pay30 H (iblk m c 3 t)) (Kernel2Ideal.Gen.k0_pay31 (Kernel2Ideal.Gen.k0_pay2 (iblk m c 0 t)))
    (FloatOps.ofBits FTy.f32 0x3F000000#32) (iblk m c 4 t) (iblk m c 5 t) y)
    (?_ : _ = hiddenBlk (iblk m c 0 t) (iblk m c 1 t) (iblk m c 2 t))).trans (tail_apply _ _ _ _ _ y)
  simp only [pay3_eq, pay8_eq, pay4_eq, pay7_eq, pay13_eq, pay14_eq, pay18_eq, pay19_eq, pay23_eq, pay24_eq, pay28_eq, pay29_eq]
  rw [View.readCov_eq_canon']
  funext j
  refine (congrArg (View.canon _) (?_ : _ = j)).trans ?_
  · blk_ext <;> exact (Nat.zero_add _).trans (Nat.one_mul _)
  canon_tiles x h
  all_goals exact chunk_apply _ _ _ _ _ _ _ (by omega) (by omega)

/-- Row `i` of the 4 × 8192 rows taken one after the other. -/
def rowOf (i : Fin 32768) : Fin 4 × Fin 8192 := (⟨i / 8192, by omega⟩, ⟨i % 8192, by omega⟩)

/-- The feed-forward block on every row: entry `i` of the result. -/
def result (X : FVec Ideal S4x8192x1024 .f32) (WG WU : FVec Ideal S1024x2816 .f32) (WD : FVec Ideal S2816x1024 .f32)
    (G B : FVec Ideal S1024 .f32) : FVec Ideal S32768x1024 .f32 := fun i =>
  ffnRow (fun k => X (ix3 (rowOf (i 0)).1 (rowOf (i 0)).2 k)) (fun k f => WG (ix2 k f)) (fun k f => WU (ix2 k f))
    (fun f j => WD (ix2 f j)) (fun j => G (ix1 j)) (fun j => B (ix1 j)) (i 1)

/-- The windows' block indices: point `t` works on rows `1024 t` and on; weights, gain and offset come whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The result array after the run. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, outsAt_apply]
  simp only [result, ffnRow, layerNorm, mean, ffnSum, ffnHidden]
  blk_point [iblk, V, idx t]
  all_goals simp only [rowOf]; blk_simp [idx t]

end Cert.Kernel4Ideal.Ffn

end
-- ==== Proof.Ffn4Reference.lean ====
module

public import proofs.«01_k».proof.Proof.Ffn4Array
public import proofs.«01_k».proof.Proof.Gen.Reference4Ideal.Run

@[expose] public section

set_option maxRecDepth 16384

noncomputable section

/-! What the feed-forward reference over the shorter array computes. -/

namespace Cert.Reference4Ideal.Ffn

open Cert.Reference4Ideal Idealize.ShloMosaic Idealize.ShloMosaic.TcCoe Idealize.SL.Sem
open Cert.RowMath

variable (m : (ℓ : Loc nD τ sig) → Buf (Elt Ideal) ℓ)

/-- The reference's result is the feed-forward block on every row. -/
theorem reference_eq (c : Dev nD) : Value.res_main_v34 m c
    = Cert.Kernel4Ideal.Ffn.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  pointwise [Value.res_main_v34, Cert.Kernel4Ideal.Ffn.result, ffnRow, layerNorm, mean, ffnSum, ffnHidden, sigmoid]
  simp only [zero_sub]
  blk_point [Cert.Kernel4Ideal.Ffn.rowOf]

end Cert.Reference4Ideal.Ffn

end
-- ==== Proof.MixMath.lean ====
module

public import proofs.«01_k».proof.Proof.RowMath

@[expose] public section

noncomputable section

/-! The formulas of one row of the mixing step, over the extended reals. -/

namespace Cert.MixMath

open Idealize.ShloMosaic Cert.RowMath

/-- The mean over the 64 columns of the head that column `c` lies in. -/
def headMean (q : Fin 512 → EReal) (c : Fin 512) : EReal :=
  Ideal.div (∑ d : Fin 64, q ⟨64 * (c.val / 64) + d.val, by omega⟩) (Ideal.ofBits .f32 0x42800000#32)

/-- Entry `c` of the recurrence's output row `o`, normalised head by head by its root mean square, scaled by `w` and
    gated by `silu z`. -/
def gated (o z : Fin 512 → EReal) (w : Fin 64 → EReal) (c : Fin 512) : EReal :=
  o c * Ideal.rsqrt (headMean (fun k => o k * o k) c + Ideal.ofBits .f32 0x358637BD#32) * w ⟨c.val % 64, by omega⟩
    * (z c * sigmoid (z c))

/-- Gate `j` of a row `x`. -/
def gate (x : Fin 1024 → EReal) (w : Fin 1024 → Fin 2048 → EReal) (b : Fin 2048 → EReal) (j : Fin 2048) : EReal :=
  sigmoid ((∑ k, x k * w k j) + b j)

/-- Entry `j` of the two branches' outputs, each projected and gated, added. -/
def mixed (x : Fin 1024 → EReal) (p q : Fin 512 → EReal) (wp wq : Fin 512 → Fin 1024 → EReal)
    (w : Fin 1024 → Fin 2048 → EReal) (b : Fin 2048 → EReal) (j : Fin 1024) : EReal :=
  gate x w b ⟨j.val, by omega⟩ * (∑ k, p k * wp k j) + gate x w b ⟨1024 + j.val, by omega⟩ * ∑ k, q k * wq k j

/-- The mixing step's residual sum: `α x + mixed · w_o`. -/
def mixSum (x : Fin 1024 → EReal) (p q : Fin 512 → EReal) (wp wq : Fin 512 → Fin 1024 → EReal)
    (w : Fin 1024 → Fin 2048 → EReal) (b : Fin 2048 → EReal) (wo : Fin 1024 → Fin 1024 → EReal) (j : Fin 1024) : EReal :=
  Ideal.ofBits .f32 0x3FB504F3#32 * x j + ∑ f, mixed x p q wp wq w b f * wo f j

/-- The mixing step's result row: the layer normalisation of `mixSum`. -/
def mixRow (x : Fin 1024 → EReal) (p q : Fin 512 → EReal) (wp wq : Fin 512 → Fin 1024 → EReal)
    (w : Fin 1024 → Fin 2048 → EReal) (b : Fin 2048 → EReal) (wo : Fin 1024 → Fin 1024 → EReal) (g s : Fin 1024 → EReal) :
    Fin 1024 → EReal :=
  layerNorm (mixSum x p q wp wq w b wo) g s

/-- The sum over a head's columns as a table computes it: the products of 256 numbers `q` with the table's column, and
    the products of what rounding `q` dropped, which is `q - q`. -/
def tableSum (q t : Fin 256 → EReal) : EReal := (∑ k, q k * t k) + ∑ k, (q k - q k) * t k

/-- `gated` with the mean computed through a table `t`, for a scale row `w` of full width. -/
def gatedTable (o z w : Fin 512 → EReal) (t : Fin 256 → Fin 256 → EReal) (c : Fin 512) : EReal :=
  o c * Ideal.rsqrt (tableSum (fun k => o ⟨256 * (c.val / 256) + k.val, by omega⟩ * o ⟨256 * (c.val / 256) + k.val, by omega⟩)
      (fun k => t k ⟨c.val % 256, by omega⟩) * Ideal.ofBits .f32 0x3C800000#32 + Ideal.ofBits .f32 0x358637BD#32) * w c
    * (z c * sigmoid (z c))

end Cert.MixMath

end
-- ==== Proof.MixBlock.lean ====
module

public import proofs.«01_k».proof.Proof.MixMath
public import proofs.«01_k».proof.Proof.Gen.Kernel3Ideal.Frame
public import Idealize.ShloMosaic.Lib.Pipeline.ValueKit

@[expose] public section

set_option maxRecDepth 16384

noncomputable section

/-! What one grid point of the mixing kernel computes: the 512 rows of its block, each by `MixMath.mixRow`. -/

namespace Cert.Kernel3Ideal.Mix

open Cert.Kernel3Ideal Cert.Kernel3Ideal.Gen Idealize.ShloMosaic Idealize.ShloMosaic.TcCoe Idealize.SL.Sem
open Cert.RowMath Cert.MixMath

/-- The gated recurrence output of a block of rows. -/
def gatedBlk (OF OB : FVec Ideal S512x512 .f32) (T : FVec Ideal S256x256 .bf16) (Z : FVec Ideal S512x512 .bf16)
    (W : FVec Ideal S1x512 .f32) : FVec Ideal S512x512 .bf16 := fun i =>
  gatedTable (fun k => OF (ix2 (i 0) k) + OB (ix2 (i 0) k)) (fun k => Z (ix2 (i 0) k)) (fun k => W (ix2 0 k))
    (fun k j => T (ix2 k j)) (i 1)

/-- The gated recurrence output, in the columns of the first half. -/
theorem gated_lo (OF OB : FVec Ideal S512x512 .f32) (T : FVec Ideal S256x256 .bf16) (Z : FVec Ideal S512x512 .bf16)
    (W : FVec Ideal S1x512 .f32) (r : Fin 512) (c : Fin 256) :
    k0_pay7 (F := Ideal) (k0_pay4 Z) (k0_pay5 OF OB T W) (k0_pay6 Z) (ix2 r ⟨c.val, by omega⟩ : S512x512.Idx)
      = gatedBlk OF OB T Z W (ix2 r ⟨c.val, by omega⟩ : S512x512.Idx) := by
  pointwise [k0_pay7, k0_pay4, k0_pay5, k0_pay6, gatedBlk, gatedTable, tableSum, sigmoid]
  blk_point []

/-- The gated recurrence output, in the columns of the second half. -/
theorem gated_hi (OF OB : FVec Ideal S512x512 .f32) (T : FVec Ideal S256x256 .bf16) (Z : FVec Ideal S512x512 .bf16)
    (W : FVec Ideal S1x512 .f32) (r : Fin 512) (c : Fin 256) :
    k0_pay7 (F := Ideal) (k0_pay4 Z) (k0_pay5 OF OB T W) (k0_pay6 Z) (ix2 r ⟨256 + c.val, by omega⟩ : S512x512.Idx)
      = gatedBlk OF OB T Z W (ix2 r ⟨256 + c.val, by omega⟩ : S512x512.Idx) := by
  pointwise [k0_pay7, k0_pay4, k0_pay5, k0_pay6, gatedBlk, gatedTable, tableSum, sigmoid]
  blk_point []

/-- The kernel's gated recurrence output is `gatedBlk`. -/
theorem gated_eq (OF OB : FVec Ideal S512x512 .f32) (T : FVec Ideal S256x256 .bf16) (Z : FVec Ideal S512x512 .bf16)
    (W : FVec Ideal S1x512 .f32) :
    k0_pay7 (F := Ideal) (k0_pay4 Z) (k0_pay5 OF OB T W) (k0_pay6 Z) = gatedBlk OF OB T Z W := by
  funext i
  obtain ⟨r, c, rfl⟩ : ∃ (r : Fin 512) (c : Fin 512), i = ix2 r c := ⟨i 0, i 1, by blk_ext⟩
  by_cases h : c.val < 256
  · exact gated_lo OF OB T Z W r ⟨c.val, h⟩
  · obtain ⟨d, e⟩ : ∃ d : Fin 256, c = ⟨256 + d.val, by omega⟩ := ⟨⟨c.val - 256, by omega⟩, by ext; simp only; omega⟩
    rw [e]
    exact gated_hi OF OB T Z W r d

/-- The two gated branches of a block of rows, added. -/
def mixedBlk (X : FVec Ideal S512x1024 .f32) (P Q : FVec Ideal S512x512 .bf16) (WP WQ : FVec Ideal S512x1024 .bf16)
    (W : FVec Ideal S1024x2048 .bf16) (B : FVec Ideal S1x2048 .f32) : FVec Ideal S512x1024 .bf16 := fun i =>
  mixed (fun k => X (ix2 (i 0) k)) (fun k => P (ix2 (i 0) k)) (fun k => Q (ix2 (i 0) k)) (fun k j => WP (ix2 k j))
    (fun k j => WQ (ix2 k j)) (fun k j => W (ix2 k j)) (fun j => B (ix2 0 j)) (i 1)

/-- A chunk of 256 columns, computed from the weights' columns from `o` on and the second gate's from `o'` on. -/
def chunk (X : FVec Ideal S512x1024 .f32) (P Q : FVec Ideal S512x512 .bf16) (wp wq : Vec Ideal S512x256 .bf16)
    (w w' : Vec Ideal S1024x256 .bf16) (b b' : Vec Ideal S1x256 .f32) : FVec Ideal S512x256 .bf16 :=
  k0_pay22 (k0_pay3 X) (k0_pay19 (k0_pay8 P) wp) (k0_pay20 Q wq) (k0_pay21 (k0_pay3 X) w b) w' b'

/-- Such a chunk is that window of `mixedBlk`. -/
theorem chunk_apply (X : FVec Ideal S512x1024 .f32) (P Q : FVec Ideal S512x512 .bf16) (WP WQ : FVec Ideal S512x1024 .bf16)
    (W : FVec Ideal S1024x2048 .bf16) (B : FVec Ideal S1x2048 .f32) (o o' : ℕ)
    (h1 : ∀ a, (![0, o] : Fin 2 → ℕ) a + (![512, 256] : Fin 2 → ℕ) a ≤ S512x1024.size a)
    (h2 : ∀ a, (![0, o] : Fin 2 → ℕ) a + (![1024, 256] : Fin 2 → ℕ) a ≤ S1024x2048.size a)
    (h3 : ∀ a, (![0, o'] : Fin 2 → ℕ) a + (![1024, 256] : Fin 2 → ℕ) a ≤ S1024x2048.size a)
    (h4 : ∀ a, (![0, o] : Fin 2 → ℕ) a + (![1, 256] : Fin 2 → ℕ) a ≤ S1x2048.size a)
    (h5 : ∀ a, (![0, o'] : Fin 2 → ℕ) a + (![1, 256] : Fin 2 → ℕ) a ≤ S1x2048.size a)
    (x : S512x256.Idx) (y : S512x1024.Idx) (ho : o' = 1024 + o) (h0 : (y 0 : ℕ) = x 0) (h1' : (y 1 : ℕ) = o + x 1) :
    chunk X P Q (View.ld WP (Rect.unit (s := S512x1024) ![0, o] ![512, 256] h1))
      (View.ld WQ (Rect.unit (s := S512x1024) ![0, o] ![512, 256] h1))
      (View.ld W (Rect.unit (s := S1024x2048) ![0, o] ![1024, 256] h2))
      (View.ld W (Rect.unit (s := S1024x2048) ![0, o'] ![1024, 256] h3))
      (View.ld B (Rect.unit (s := S1x2048) ![0, o] ![1, 256] h4))
      (View.ld B (Rect.unit (s := S1x2048) ![0, o'] ![1, 256] h5)) x = mixedBlk X P Q WP WQ W B y := by
  pointwise [chunk, k0_pay22, k0_pay19, k0_pay20, k0_pay21, k0_pay8, k0_pay3, k0_pay2, mixedBlk, mixed, gate, sigmoid]
  blk_point []

/-! The kernel's four chunks are this one computation, named in other pieces. -/

theorem chunk1_eq (X P z v u wp wq w w' b b') : k0_pay13 (k0_pay9 P wp) (k0_pay10 z v u wq) (k0_pay11 (k0_pay3 X) w b)
    (k0_pay12 (k0_pay3 X) w' b') = chunk X P (k0_pay7 (F := Ideal) z v u) wp wq w w' b b' := rfl
theorem chunk2_eq (X P Q wp wq w w' b b') : k0_pay18 (k0_pay14 (k0_pay8 P) wp) (k0_pay15 Q wq) (k0_pay16 (k0_pay3 X) w b)
    (k0_pay17 (k0_pay3 X) w') b' = chunk X P Q wp wq w w' b b' := rfl
theorem chunk3_eq (X P Q wp wq w w' b b') : k0_pay22 (k0_pay3 X) (k0_pay19 (k0_pay8 P) wp) (k0_pay20 Q wq)
    (k0_pay21 (k0_pay3 X) w b) w' b' = chunk X P Q wp wq w w' b b' := rfl
theorem chunk4_eq (X P Q wp wq w w' b b') : k0_pay26 (k0_pay3 X) (k0_pay23 (k0_pay8 P) wp) (k0_pay24 Q wq)
    (k0_pay25 (k0_pay3 X) w b) w' b' = chunk X P Q wp wq w w' b b' := rfl

/-- The last step on a block of rows: the product with `w_o`, the residual sum and the layer normalisation. -/
theorem tail_apply (X : FVec Ideal S512x1024 .f32) (H : FVec Ideal S512x1024 .bf16) (W : FVec Ideal S1024x1024 .bf16)
    (G B : FVec Ideal S1x1024 .f32) (y : S512x1024.Idx) :
    k0_pay1 (F := Ideal) (k0_pay27 (k0_pay2 X) H W) (k0_pay28 G) (k0_pay29 B) y
      = layerNorm (fun j => Ideal.ofBits .f32 0x3FB504F3#32 * X (ix2 (y 0) j) + ∑ f, H (ix2 (y 0) f) * W (ix2 f j))
          (fun j => G (ix2 0 j)) (fun j => B (ix2 0 j)) (y 1) := by
  pointwise [k0_pay1, k0_pay27, k0_pay28, k0_pay29, k0_pay2, layerNorm, mean]

variable (m : (ℓ : Loc nD τ sig) → Buf (Elt Ideal) ℓ)

/-- What point `t` leaves in the output block: each row is `mixRow` of the input blocks' row, the recurrence's branch
    gated through the table. -/
theorem outsAt_apply (c : Dev nD) (t : Fin cfg0.N) (y : S512x1024.Idx) :
    outsAt0 m c t y = mixRow (fun k => (show FVec Ideal S512x1024 .f32 from iblk m c 0 t) (ix2 (y 0) k))
      (fun k => (show FVec Ideal S512x512 .bf16 from iblk m c 1 t) (ix2 (y 0) k))
      (gatedTable (fun k => (show FVec Ideal S512x512 .f32 from iblk m c 2 t) (ix2 (y 0) k)
          + (show FVec Ideal S512x512 .f32 from iblk m c 3 t) (ix2 (y 0) k))
        (fun k => (show FVec Ideal S512x512 .bf16 from iblk m c 4 t) (ix2 (y 0) k))
        (fun k => (show FVec Ideal S1x512 .f32 from iblk m c 5 t) (ix2 0 k))
        (fun k j => (show FVec Ideal S256x256 .bf16 from iblk m c 13 t) (ix2 k j)))
      (fun k j => (show FVec Ideal S512x1024 .bf16 from iblk m c 6 t) (ix2 k j))
      (fun k j => (show FVec Ideal S512x1024 .bf16 from iblk m c 7 t) (ix2 k j))
      (fun k j => (show FVec Ideal S1024x2048 .bf16 from iblk m c 8 t) (ix2 k j))
      (fun j => (show FVec Ideal S1x2048 .f32 from iblk m c 9 t) (ix2 0 j))
      (fun f j => (show FVec Ideal S1024x1024 .bf16 from iblk m c 10 t) (ix2 f j))
      (fun j => (show FVec Ideal S1x1024 .f32 from iblk m c 11 t) (ix2 0 j))
      (fun j => (show FVec Ideal S1x1024 .f32 from iblk m c 12 t) (ix2 0 j)) (y 1) := by
  unfold Gen.outsAt0
  frame_out
  refine (congrArg (fun H => k0_pay1 (F := Ideal) (k0_pay27 (k0_pay2 (iblk m c 0 t)) H (iblk m c 10 t))
    (k0_pay28 (iblk m c 11 t)) (k0_pay29 (iblk m c 12 t)) y)
    (?_ : _ = mixedBlk (iblk m c 0 t) (iblk m c 1 t)
      (gatedBlk (iblk m c 2 t) (iblk m c 3 t) (iblk m c 13 t) (iblk m c 4 t) (iblk m c 5 t))
      (iblk m c 6 t) (iblk m c 7 t) (iblk m c 8 t) (iblk m c 9 t))).trans (tail_apply _ _ _ _ _ y)
  simp only [chunk1_eq, chunk2_eq, chunk3_eq, chunk4_eq, gated_eq]
  rw [View.readCov_eq_canon']
  funext j
  refine (congrArg (View.canon _) (?_ : _ = j)).trans ?_
  · blk_ext <;> exact (Nat.zero_add _).trans (Nat.one_mul _)
  canon_tiles x h
  all_goals exact chunk_apply _ _ _ _ _ _ _ _ _ _ _ _ _ _ _ _ (by omega) (by omega) (by omega)

end Cert.Kernel3Ideal.Mix

end
-- ==== Proof.MixArray.lean ====
module

public import proofs.«01_k».proof.Proof.MixBlock

@[expose] public section

set_option maxRecDepth 16384

noncomputable section

/-! What the mixing kernel's result array holds after the run, over its argument arrays. -/

namespace Cert.Kernel3Ideal.Mix

open Cert.Kernel3Ideal Cert.Kernel3Ideal.Gen Idealize.ShloMosaic Idealize.ShloMosaic.TcCoe Idealize.SL.Sem
open Cert.RowMath Cert.MixMath

/-- Row `i` of the 8 × 8192 rows taken one after the other. -/
def rowOf (i : Fin 65536) : Fin 8 × Fin 8192 := (⟨i / 8192, by omega⟩, ⟨i % 8192, by omega⟩)

/-- The mixing step on every row, `Q` giving the gated recurrence output of a row: entry `i` of the result. -/
def result (Q : Fin 8 → Fin 8192 → Fin 512 → EReal) (X : FVec Ideal S8x8192x1024 .f32) (P : FVec Ideal S8x8192x512 .bf16)
    (WP WQ : FVec Ideal S512x1024 .f32) (W : FVec Ideal S1024x2048 .f32) (B : FVec Ideal S2048 .f32)
    (WO : FVec Ideal S1024x1024 .f32) (G S : FVec Ideal S1024 .f32) : FVec Ideal S65536x1024 .f32 := fun i =>
  mixRow (fun k => X (ix3 (rowOf (i 0)).1 (rowOf (i 0)).2 k)) (fun k => P (ix3 (rowOf (i 0)).1 (rowOf (i 0)).2 k))
    (Q (rowOf (i 0)).1 (rowOf (i 0)).2) (fun k j => WP (ix2 k j)) (fun k j => WQ (ix2 k j)) (fun k j => W (ix2 k j))
    (fun j => B (ix1 j)) (fun f j => WO (ix2 f j)) (fun j => G (ix1 j)) (fun j => S (ix1 j)) (i 1)

/-- The constant table. -/
def table : Fin 256 → Fin 256 → EReal := fun k j => Ideal.ofBits .bf16 (lit0 (S256x256.rowMajor (ix2 k j)))

/-- The gated recurrence output of row `(b, s)`, as the kernel computes it. -/
def tableRow (OF OB : FVec Ideal S8x8192x512 .f32) (Z : FVec Ideal S8x8192x512 .bf16) (N : FVec Ideal S64 .f32)
    (b : Fin 8) (s : Fin 8192) : Fin 512 → EReal :=
  gatedTable (fun k => OF (ix3 b s k) + OB (ix3 b s k)) (fun k => Z (ix3 b s k)) (fun k => N (ix1 ⟨k.val % 64, by omega⟩)) table

/-- The gated recurrence output of row `(b, s)`, head by head. -/
def gatedRow (OF OB : FVec Ideal S8x8192x512 .f32) (Z : FVec Ideal S8x8192x512 .bf16) (N : FVec Ideal S64 .f32)
    (b : Fin 8) (s : Fin 8192) : Fin 512 → EReal :=
  gated (fun k => OF (ix3 b s k) + OB (ix3 b s k)) (fun k => Z (ix3 b s k)) (fun k => N (ix1 k))

/-- The windows' block indices: point `t` works on rows `512 t` and on of the row-wise arrays; the rest come whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

variable (m : (ℓ : Loc nD τ sig) → Buf (Elt Ideal) ℓ)

/-- Row `r` of point `t`'s tile. -/
def at512 (t : Fin cfg0.N) (r : Fin 512) : Fin 65536 := ⟨512 * t.val + r.val, by have := t.isLt; have : cfg0.N = 128 := rfl; omega⟩

/-! The blocks point `t` reads, each over the argument array it is cut from. -/

theorem blk0 (c : Dev nD) (t : Fin cfg0.N) (r : Fin 512) (k : Fin 1024) :
    (show FVec Ideal S512x1024 .f32 from iblk m c 0 t) (ix2 r k)
      = m ((c : Thread nD τ).loc main_arg0) (ix3 (rowOf (at512 t r)).1 (rowOf (at512 t r)).2 k) := by
  blk_point [iblk, V, idx t]
  all_goals simp only [rowOf, at512]
  all_goals omega

theorem blk1 (c : Dev nD) (t : Fin cfg0.N) (r : Fin 512) (k : Fin 512) :
    (show FVec Ideal S512x512 .bf16 from iblk m c 1 t) (ix2 r k)
      = m ((c : Thread nD τ).loc main_arg1) (ix3 (rowOf (at512 t r)).1 (rowOf (at512 t r)).2 k) := by
  blk_point [iblk, V, idx t]
  all_goals simp only [rowOf, at512]
  all_goals omega

theorem blk2 (c : Dev nD) (t : Fin cfg0.N) (r : Fin 512) (k : Fin 512) :
    (show FVec Ideal S512x512 .f32 from iblk m c 2 t) (ix2 r k)
      = m ((c : Thread nD τ).loc main_arg2) (ix3 (rowOf (at512 t r)).1 (rowOf (at512 t r)).2 k) := by
  blk_point [iblk, V, idx t]
  all_goals simp only [rowOf, at512]
  all_goals omega

theorem blk3 (c : Dev nD) (t : Fin cfg0.N) (r : Fin 512) (k : Fin 512) :
    (show FVec Ideal S512x512 .f32 from iblk m c 3 t) (ix2 r k)
      = m ((c : Thread nD τ).loc main_arg3) (ix3 (rowOf (at512 t r)).1 (rowOf (at512 t r)).2 k) := by
  blk_point [iblk, V, idx t]
  all_goals simp only [rowOf, at512]
  all_goals omega

theorem blk4 (c : Dev nD) (t : Fin cfg0.N) (r : Fin 512) (k : Fin 512) :
    (show FVec Ideal S512x512 .bf16 from iblk m c 4 t) (ix2 r k)
      = m ((c : Thread nD τ).loc main_arg4) (ix3 (rowOf (at512 t r)).1 (rowOf (at512 t r)).2 k) := by
  blk_point [iblk, V, idx t]
  all_goals simp only [rowOf, at512]
  all_goals omega

theorem blk5 (c : Dev nD) (t : Fin cfg0.N) (k : Fin 512) :
    (show FVec Ideal S1x512 .f32 from iblk m c 5 t) (ix2 0 k)
      = m ((c : Thread nD τ).loc main_arg5) (ix1 ⟨k.val % 64, by omega⟩) := by
  blk_point [iblk, V, idx t]

theorem blk6 (c : Dev nD) (t : Fin cfg0.N) (r : Fin 512) (k : Fin 1024) :
    (show FVec Ideal S512x1024 .bf16 from iblk m c 6 t) (ix2 r k) = m ((c : Thread nD τ).loc main_arg6) (ix2 r k) := by
  blk_point [iblk, V, idx t]

theorem blk7 (c : Dev nD) (t : Fin cfg0.N) (r : Fin 512) (k : Fin 1024) :
    (show FVec Ideal S512x1024 .bf16 from iblk m c 7 t) (ix2 r k) = m ((c : Thread nD τ).loc main_arg7) (ix2 r k) := by
  blk_point [iblk, V, idx t]

theorem blk8 (c : Dev nD) (t : Fin cfg0.N) (r : Fin 1024) (k : Fin 2048) :
    (show FVec Ideal S1024x2048 .bf16 from iblk m c 8 t) (ix2 r k) = m ((c : Thread nD τ).loc main_arg8) (ix2 r k) := by
  blk_point [iblk, V, idx t]

theorem blk9 (c : Dev nD) (t : Fin cfg0.N) (k : Fin 2048) :
    (show FVec Ideal S1x2048 .f32 from iblk m c 9 t) (ix2 0 k) = m ((c : Thread nD τ).loc main_arg9) (ix1 k) := by
  blk_point [iblk, V, idx t]

theorem blk10 (c : Dev nD) (t : Fin cfg0.N) (r : Fin 1024) (k : Fin 1024) :
    (show FVec Ideal S1024x1024 .bf16 from iblk m c 10 t) (ix2 r k) = m ((c : Thread nD τ).loc main_arg10) (ix2 r k) := by
  blk_point [iblk, V, idx t]

theorem blk11 (c : Dev nD) (t : Fin cfg0.N) (k : Fin 1024) :
    (show FVec Ideal S1x1024 .f32 from iblk m c 11 t) (ix2 0 k) = m ((c : Thread nD τ).loc main_arg11) (ix1 k) := by
  blk_point [iblk, V, idx t]

theorem blk12 (c : Dev nD) (t : Fin cfg0.N) (k : Fin 1024) :
    (show FVec Ideal S1x1024 .f32 from iblk m c 12 t) (ix2 0 k) = m ((c : Thread nD τ).loc main_arg12) (ix1 k) := by
  blk_point [iblk, V, idx t]

/-- The host's first line writes the table. -/
theorem table_eq (c : Dev nD) : V m c main_cst = fun i => Ideal.ofBits .bf16 (lit0 (S256x256.rowMajor i)) := by
  show StableHlo.after hostOps0 (fun b => m (c, b)) (Proc.tc.devRef main_cst) = _
  simp only [hostOps0]
  after_results_simp <;> rfl

theorem blk13 (c : Dev nD) (t : Fin cfg0.N) (r k : Fin 256) :
    (show FVec Ideal S256x256 .bf16 from iblk m c 13 t) (ix2 r k) = table r k := by
  show V m c main_cst ((win0_13.blk t).view.emb (ix2 r k)) = _
  rw [table_eq]
  refine congrArg (fun i => Ideal.ofBits .bf16 (lit0 (S256x256.rowMajor i))) (?_ : _ = (ix2 r k : S256x256.Idx))
  blk_ext [idx t]

/-- What the run leaves in the result array. -/
abbrev answer (c : Dev nD) : FVec Ideal S65536x1024 .f32 :=
  result (tableRow (m ((c : Thread nD τ).loc main_arg2)) (m ((c : Thread nD τ).loc main_arg3))
        (m ((c : Thread nD τ).loc main_arg4)) (m ((c : Thread nD τ).loc main_arg5)))
      (m ((c : Thread nD τ).loc main_arg0)) (m ((c : Thread nD τ).loc main_arg1)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))

/-- Entry `(r, j)` of the block point `t` writes. -/
theorem outs_eq (c : Dev nD) (t : Fin cfg0.N) (r : Fin 512) (j : Fin 1024) :
    outsAt0 m c t (ix2 r j : S512x1024.Idx) = answer m c (ix2 (at512 t r) j : S65536x1024.Idx) := by
  refine (outsAt_apply m c t (ix2 r j)).trans ?_
  show mixRow (fun k => (show FVec Ideal S512x1024 .f32 from iblk m c 0 t) (ix2 r k))
    (fun k => (show FVec Ideal S512x512 .bf16 from iblk m c 1 t) (ix2 r k))
    (gatedTable (fun k => (show FVec Ideal S512x512 .f32 from iblk m c 2 t) (ix2 r k)
        + (show FVec Ideal S512x512 .f32 from iblk m c 3 t) (ix2 r k))
      (fun k => (show FVec Ideal S512x512 .bf16 from iblk m c 4 t) (ix2 r k)) _ _) _ _ _ _ _ _ _ j = _
  simp only [blk0, blk1, blk2, blk3, blk4, blk5, blk6, blk7, blk8, blk9, blk10, blk11, blk12, blk13]
  rfl

/-- The run's result: the mixing step on every row, the recurrence's branch gated through the table. -/
theorem final (c : Dev nD) : (dats m 0 c).arrAt 14 cfg0.N = answer m c := by
  refine (dats m 0 c).arrAt_eq_of_covers 14 _ (by decide +kernel) fun t _ y => ?_
  blk_simp
  rw [after0_14]
  refine (congrArg (outsAt0 m c t) (?_ : _ = (ix2 (y 0) (y 1) : S512x1024.Idx))).trans
    ((outs_eq m c t (y 0) (y 1)).trans (congrArg (answer m c) ?_))
  · blk_ext
  · blk_ext [idx t, at512]

end Cert.Kernel3Ideal.Mix

end
-- ==== Proof.MixReference.lean ====
module

public import proofs.«01_k».proof.Proof.MixArray
public import proofs.«01_k».proof.Proof.Gen.Reference3Ideal.Run

@[expose] public section

set_option maxRecDepth 16384

noncomputable section

/-! What the mixing reference computes. Its composed term is named in layers, and each layer is read off. -/

namespace Cert.Reference3Ideal.Mix

open Cert.Reference3Ideal Cert.Reference3Ideal.Gen Idealize.ShloMosaic Idealize.ShloMosaic.TcCoe Idealize.SL.Sem
open Cert.RowMath Cert.MixMath

/-- The recurrence's two directions, added, head by head. -/
def heads (OF OB : FVec Ideal S8x8192x512 .f32) : FVec Ideal S8x8192x8x64 .f32 :=
  shapeCast _ (addf OF OB) shapeCasts_S8x8192x512_S8x8192x8x64

/-- Each head's mean square. -/
def means (O : FVec Ideal S8x8192x8x64 .f32) : FVec Ideal S8x8192x8x1 .f32 :=
  Host.divf (broadcastInDim S8x8192x8x1 ![0, 1, 2] bcast_S8x8192x8_S8x8192x8x1_0_1_2 (Host.reduceAdd (mulf O O) (constant S_ .f32 0x00000000#32) reducesTo_S8x8192x8x64_S8x8192x8_d3 h_S_)) (broadcastInDim S8x8192x8x1 ![] bcast_S_S8x8192x8x1 (constant S_ .f32 0x42800000#32))

/-- The heads normalised, scaled and gated. -/
def gatedTerm (O : FVec Ideal S8x8192x8x64 .f32) (Z : FVec Ideal S8x8192x512 .bf16) (N : FVec Ideal S64 .f32) : FVec Ideal S8x8192x512 .f32 :=
  shapeCast _ (mulf (mulf (mulf O (broadcastInDim S8x8192x8x64 ![0, 1, 2, 3] bcast_S8x8192x8x1_S8x8192x8x64_0_1_2_3 (Host.rsqrt (addf (means O) (broadcastInDim S8x8192x8x1 ![] bcast_S_S8x8192x8x1 (constant S_ .f32 0x358637BD#32)))))) (broadcastInDim S8x8192x8x64 ![0, 1, 2, 3] bcast_S1x1x1x64_S8x8192x8x64_0_1_2_3 (broadcastInDim S1x1x1x64 ![3] bcast_S64_S1x1x1x64_3 N))) (mulf (shapeCast _ (extf .f32 Z bitsLt_bf16_f32) shapeCasts_S8x8192x512_S8x8192x8x64) (Host.divf (broadcastInDim S8x8192x8x64 ![] bcast_S_S8x8192x8x64 (constant S_ .f32 0x3F800000#32)) (addf (broadcastInDim S8x8192x8x64 ![] bcast_S_S8x8192x8x64 (constant S_ .f32 0x3F800000#32)) (Host.exp (Host.negf (shapeCast _ (extf .f32 Z bitsLt_bf16_f32) shapeCasts_S8x8192x512_S8x8192x8x64))))))) shapeCasts_S8x8192x8x64_S8x8192x512

/-- Both gates of every row. -/
def gates (X : FVec Ideal S8x8192x1024 .f32) (W : FVec Ideal S1024x2048 .f32) (B : FVec Ideal S2048 .f32) : FVec Ideal S8x8192x2048 .f32 :=
  Host.divf (broadcastInDim S8x8192x2048 ![] bcast_S_S8x8192x2048 (constant S_ .f32 0x3F800000#32)) (addf (broadcastInDim S8x8192x2048 ![] bcast_S_S8x8192x2048 (constant S_ .f32 0x3F800000#32)) (Host.exp (Host.negf (addf (Host.dotGeneral dot_S8x8192x1024_S1024x2048_S8x8192x2048_2_0_01_1_n_n none X W) (broadcastInDim S8x8192x2048 ![0, 1, 2] bcast_S1x1x2048_S8x8192x2048_0_1_2 (broadcastInDim S1x1x2048 ![2] bcast_S2048_S1x1x2048_2 B))))))

/-- The two gated branches, added. -/
def mixedTerm (U : FVec Ideal S8x8192x2048 .f32) (P : FVec Ideal S8x8192x512 .bf16) (Q : FVec Ideal S8x8192x512 .f32)
    (WP WQ : FVec Ideal S512x1024 .f32) : FVec Ideal S8x8192x1024 .f32 :=
  addf (mulf (extractStridedSlice S8x8192x1024 ![0, 0, 0] U slices_S8x8192x2048_S8x8192x1024_0_0_0) (Host.dotGeneral dot_S8x8192x512_S512x1024_S8x8192x1024_2_0_01_1_n_n none (extf .f32 P bitsLt_bf16_f32) WP)) (mulf (extractStridedSlice S8x8192x1024 ![0, 0, 1024] U slices_S8x8192x2048_S8x8192x1024_0_0_1024) (Host.dotGeneral dot_S8x8192x512_S512x1024_S8x8192x1024_2_0_01_1_n_n none Q WQ))

/-- The residual sum. -/
def sumTerm (X M : FVec Ideal S8x8192x1024 .f32) (WO : FVec Ideal S1024x1024 .f32) : FVec Ideal S8x8192x1024 .f32 :=
  addf (mulf (broadcastInDim S8x8192x1024 ![] bcast_S_S8x8192x1024 (constant S_ .f32 0x3FB504F3#32)) X) (Host.dotGeneral dot_S8x8192x1024_S1024x1024_S8x8192x1024_2_0_01_1_n_n none M WO)

/-- Each row's mean. -/
def meanTerm (R : FVec Ideal S8x8192x1024 .f32) : FVec Ideal S8x8192x1 .f32 :=
  Host.divf (broadcastInDim S8x8192x1 ![0, 1] bcast_S8x8192_S8x8192x1_0_1 (Host.reduceAdd R (constant S_ .f32 0x00000000#32) reducesTo_S8x8192x1024_S8x8192_d2 h_S_)) (broadcastInDim S8x8192x1 ![] bcast_S_S8x8192x1 (constant S_ .f32 0x44800000#32))

/-- Each row with its mean taken away. -/
def centred (R : FVec Ideal S8x8192x1024 .f32) : FVec Ideal S8x8192x1024 .f32 :=
  subf R (broadcastInDim S8x8192x1024 ![0, 1, 2] bcast_S8x8192x1_S8x8192x1024_0_1_2 (meanTerm R))

/-- The layer normalisation, the rows taken one after the other. -/
def normTerm (R : FVec Ideal S8x8192x1024 .f32) (G S : FVec Ideal S1024 .f32) : FVec Ideal S65536x1024 .f32 :=
  shapeCast _ (addf (mulf (mulf (centred R) (broadcastInDim S8x8192x1024 ![0, 1, 2] bcast_S8x8192x1_S8x8192x1024_0_1_2 (Host.rsqrt (addf (meanTerm (mulf (centred R) (centred R))) (broadcastInDim S8x8192x1 ![] bcast_S_S8x8192x1 (constant S_ .f32 0x3727C5AC#32)))))) (broadcastInDim S8x8192x1024 ![0, 1, 2] bcast_S1x1x1024_S8x8192x1024_0_1_2 (broadcastInDim S1x1x1024 ![2] bcast_S1024_S1x1x1024_2 G))) (broadcastInDim S8x8192x1024 ![0, 1, 2] bcast_S1x1x1024_S8x8192x1024_0_1_2 (broadcastInDim S1x1x1024 ![2] bcast_S1024_S1x1x1024_2 S))) shapeCasts_S8x8192x1024_S65536x1024

variable (m : (ℓ : Loc nD τ sig) → Buf (Elt Ideal) ℓ)

/-- The composed term, layer by layer. -/
theorem term_eq (c : Dev nD) : Value.res_main_v66 m c
    = normTerm (sumTerm (m ((c : Thread nD τ).loc main_arg0)) (mixedTerm
        (gates (m ((c : Thread nD τ).loc main_arg0)) (m ((c : Thread nD τ).loc main_arg8)) (m ((c : Thread nD τ).loc main_arg9)))
        (m ((c : Thread nD τ).loc main_arg1))
        (gatedTerm (heads (m ((c : Thread nD τ).loc main_arg2)) (m ((c : Thread nD τ).loc main_arg3)))
          (m ((c : Thread nD τ).loc main_arg4)) (m ((c : Thread nD τ).loc main_arg5)))
        (m ((c : Thread nD τ).loc main_arg6)) (m ((c : Thread nD τ).loc main_arg7)))
        (m ((c : Thread nD τ).loc main_arg10))) (m ((c : Thread nD τ).loc main_arg11)) (m ((c : Thread nD τ).loc main_arg12)) := by
  unfold Value.res_main_v66
  rfl

/-- Entry `c` of row `(b, s)` of the gated recurrence output. -/
theorem gated_apply (OF OB : FVec Ideal S8x8192x512 .f32) (Z : FVec Ideal S8x8192x512 .bf16) (N : FVec Ideal S64 .f32)
    (b : Fin 8) (s : Fin 8192) (c : Fin 512) :
    gatedTerm (heads OF OB) Z N (ix3 b s c) = gated (fun k => OF (ix3 b s k) + OB (ix3 b s k)) (fun k => Z (ix3 b s k))
      (fun k => N (ix1 k)) c := by
  pointwise [gatedTerm, heads, means, gated, headMean, sigmoid]
  simp only [zero_sub]
  blk_point []

/-- Entry `j` of row `(b, s)` of the two gated branches' sum. -/
theorem mixed_apply (X : FVec Ideal S8x8192x1024 .f32) (W : FVec Ideal S1024x2048 .f32) (B : FVec Ideal S2048 .f32)
    (P : FVec Ideal S8x8192x512 .bf16) (Q : FVec Ideal S8x8192x512 .f32) (WP WQ : FVec Ideal S512x1024 .f32)
    (b : Fin 8) (s : Fin 8192) (j : Fin 1024) :
    mixedTerm (gates X W B) P Q WP WQ (ix3 b s j)
      = mixed (fun k => X (ix3 b s k)) (fun k => P (ix3 b s k)) (fun k => Q (ix3 b s k)) (fun k j => WP (ix2 k j))
          (fun k j => WQ (ix2 k j)) (fun k j => W (ix2 k j)) (fun j => B (ix1 j)) j := by
  pointwise [mixedTerm, gates, mixed, gate, sigmoid]
  simp only [zero_sub]

/-- Entry `i` of the layer normalisation of the residual sum. -/
theorem norm_apply (X M : FVec Ideal S8x8192x1024 .f32) (WO : FVec Ideal S1024x1024 .f32) (G S : FVec Ideal S1024 .f32)
    (i : S65536x1024.Idx) :
    normTerm (sumTerm X M WO) G S i
      = layerNorm (fun j => Ideal.ofBits .f32 0x3FB504F3#32
          * X (ix3 (Cert.Kernel3Ideal.Mix.rowOf (i 0)).1 (Cert.Kernel3Ideal.Mix.rowOf (i 0)).2 j)
          + ∑ f, M (ix3 (Cert.Kernel3Ideal.Mix.rowOf (i 0)).1 (Cert.Kernel3Ideal.Mix.rowOf (i 0)).2 f) * WO (ix2 f j))
          (fun j => G (ix1 j)) (fun j => S (ix1 j)) (i 1) := by
  pointwise [normTerm, centred, meanTerm, sumTerm, layerNorm, mean]
  blk_point [Cert.Kernel3Ideal.Mix.rowOf]

/-- The reference's result: the mixing step on every row, the recurrence's branch gated head by head. -/
theorem reference_eq (c : Dev nD) : Value.res_main_v66 m c
    = Cert.Kernel3Ideal.Mix.result (Cert.Kernel3Ideal.Mix.gatedRow (m ((c : Thread nD τ).loc main_arg2))
          (m ((c : Thread nD τ).loc main_arg3)) (m ((c : Thread nD τ).loc main_arg4)) (m ((c : Thread nD τ).loc main_arg5)))
        (m ((c : Thread nD τ).loc main_arg0)) (m ((c : Thread nD τ).loc main_arg1)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) := by
  rw [term_eq]
  funext i
  rw [norm_apply]
  simp only [mixed_apply, gated_apply]
  rfl

end Cert.Reference3Ideal.Mix

end
-- ==== Proof.MixTable.lean ====
module

public import proofs.«01_k».proof.Proof.Gen.Kernel3Ideal.Frame

@[expose] public section

set_option maxRecDepth 100000

/-! The table the mixing kernel sums heads with: the squares of each head are added by a matrix product with a constant
256 by 256 table, one where row and column lie in the same 64-wide head and zero elsewhere. -/

namespace Cert.Kernel3Ideal.Mix

open Cert.Kernel3Ideal Idealize.ShloMosaic

/-- Rows `32 q` to `32 q + 31` of the table hold the bit patterns of one inside a head and of zero outside. -/
abbrev Rows (q : ℕ) : Prop := ∀ a : Fin 32, ∀ b : Fin 256, lit0t (256 * (32 * q + a.val) + b.val)
  = if (32 * q + a.val) / 64 = b.val / 64 then 0x3F80#16 else 0#16

theorem rows0 : Rows 0 := by decide +kernel
theorem rows1 : Rows 1 := by decide +kernel
theorem rows2 : Rows 2 := by decide +kernel
theorem rows3 : Rows 3 := by decide +kernel
theorem rows4 : Rows 4 := by decide +kernel
theorem rows5 : Rows 5 := by decide +kernel
theorem rows6 : Rows 6 := by decide +kernel
theorem rows7 : Rows 7 := by decide +kernel

end Cert.Kernel3Ideal.Mix
-- ==== Proof.MixFinite.lean ====
module

public import proofs.«01_k».proof.Defs
public import proofs.«01_k».proof.Proof.MixArray
public import proofs.«01_k».proof.Proof.MixTable
public import proofs.«01_k».proof.Proof.AttnFinite

@[expose] public section

set_option maxRecDepth 16384

noncomputable section

/-! Over finite recurrence outputs, the sums through the table are the sums over the heads. -/

namespace Cert.Kernel3Ideal.Mix

open Cert.Kernel3Ideal Idealize.ShloMosaic Idealize.ShloMosaic.TcCoe Idealize.SL.Sem
open Cert.RowMath Cert.MixMath Cert.KernelIdeal.Attn

/-- A table of 256 rows whose 32-row bands hold what `Rows` says holds it everywhere. -/
theorem all_rows (f : ℕ → BitVec 16)
    (h : ∀ q < 8, ∀ a : Fin 32, ∀ b : Fin 256, f (256 * (32 * q + a.val) + b.val)
      = if (32 * q + a.val) / 64 = b.val / 64 then 0x3F80#16 else 0#16) (k j : Fin 256) :
    f (256 * k.val + j.val) = if k.val / 64 = j.val / 64 then 0x3F80#16 else 0#16 := by
  have e : 32 * (k.val / 32) + k.val % 32 = k.val := Nat.div_add_mod _ _
  have h := h (k.val / 32) (by omega) ⟨k.val % 32, by omega⟩ j
  simp only [e] at h
  exact h

/-- Eight bands are all of them. -/
theorem bands (R : ℕ → Prop) (h0 : R 0) (h1 : R 1) (h2 : R 2) (h3 : R 3) (h4 : R 4) (h5 : R 5) (h6 : R 6) (h7 : R 7) :
    ∀ q < 8, R q
  | 0, _ => h0 | 1, _ => h1 | 2, _ => h2 | 3, _ => h3 | 4, _ => h4 | 5, _ => h5 | 6, _ => h6 | 7, _ => h7

/-- Entry `(k, j)` of the table, as a bit pattern. -/
theorem table_word (k j : Fin 256) : lit0t (256 * k.val + j.val) = if k.val / 64 = j.val / 64 then 0x3F80#16 else 0#16 :=
  all_rows lit0t (bands Rows rows0 rows1 rows2 rows3 rows4 rows5 rows6 rows7) k j

/-- The table as numbers. -/
theorem table_apply (k j : Fin 256) : table k j = if k.val / 64 = j.val / 64 then 1 else 0 := by
  have e : lit0 (S256x256.rowMajor (ix2 k j)) = lit0t (256 * k.val + j.val) := by
    show lit0t (S256x256.rowMajor (ix2 k j)).val = _
    rw [Shape.rowMajor_val_two]
    congr 1
    show k.val * 256 + j.val = _
    omega
  have one : Ideal.ofBits .bf16 0x3F80#16 = 1 := by
    simp [Ideal.ofBits, Ideal.ieee, -EReal.coe_mul]; norm_num
  have zero : Ideal.ofBits .bf16 0#16 = 0 := by
    simp [Ideal.ofBits, Ideal.ieee]
  rw [table, e, table_word]
  split_ifs
  · exact one
  · exact zero

/-- A product of two real numbers is real. -/
theorem mul_real {x y : EReal} (hx : IsReal x) (hy : IsReal y) : IsReal (x * y) := by
  rw [← EReal.coe_toReal hx.1 hx.2, ← EReal.coe_toReal hy.1 hy.2, ← EReal.coe_mul]
  exact ⟨EReal.coe_ne_top _, EReal.coe_ne_bot _⟩

/-- A sum of two real numbers is real. -/
theorem add_real {x y : EReal} (hx : IsReal x) (hy : IsReal y) : IsReal (x + y) := by
  rw [← EReal.coe_toReal hx.1 hx.2, ← EReal.coe_toReal hy.1 hy.2, ← EReal.coe_add]
  exact ⟨EReal.coe_ne_top _, EReal.coe_ne_bot _⟩

/-- Through the table, real numbers are summed over the head that column `j` lies in. -/
theorem tableSum_eq (q : Fin 256 → EReal) (h : ∀ k, IsReal (q k)) (j : Fin 256) :
    tableSum q (fun k => table k j) = ∑ d : Fin 64, q ⟨64 * (j.val / 64) + d.val, by omega⟩ := by
  have low : ∑ k, (q k - q k) * table k j = 0 :=
    Finset.sum_eq_zero fun k _ => by rw [EReal.sub_self (h k).1 (h k).2, zero_mul]
  rw [tableSum, low, add_zero]
  simp only [table_apply, mul_ite, mul_one, mul_zero]
  rw [← Finset.sum_filter]
  refine (Finset.sum_nbij (fun d : Fin 64 => (⟨64 * (j.val / 64) + d.val, by omega⟩ : Fin 256)) ?_ ?_ ?_ fun _ _ => rfl).symm
  · intro d _
    simp only [Finset.mem_filter, Finset.mem_univ, true_and]
    omega
  · intro d _ d' _ e
    have := congrArg Fin.val e
    exact Fin.ext (by simp only at this; omega)
  · intro k hk
    simp only [Finset.coe_filter, Finset.mem_univ, true_and, Set.mem_setOf_eq] at hk
    exact ⟨⟨k.val - 64 * (j.val / 64), by omega⟩, by simp, Fin.ext (by simp only; omega)⟩

/-- Multiplying by the kernel's constant is dividing by the reference's. -/
theorem mul_sixtyfourth (x : EReal) : x * Ideal.ofBits .f32 0x3C800000#32 = Ideal.div x (Ideal.ofBits .f32 0x42800000#32) := by
  have e : Ideal.ofBits .f32 0x42800000#32 = ((64 : ℝ) : EReal) := by
    simp [Ideal.ofBits, Ideal.ieee, -EReal.coe_mul]; norm_num
  have e' : Ideal.ofBits .f32 0x3C800000#32 = (((64 : ℝ)⁻¹ : ℝ) : EReal) := by
    simp [Ideal.ofBits, Ideal.ieee, -EReal.coe_mul]; norm_num
  have n : ((64 : ℝ) : EReal) ≠ 0 := by exact_mod_cast (by norm_num : (64 : ℝ) ≠ 0)
  rw [e, e', Ideal.div, if_neg n, EReal.coe_inv]

/-- Over a real row the gated output through the table is the gated output head by head. -/
theorem gatedTable_eq (o z : Fin 512 → EReal) (w : Fin 64 → EReal) (h : ∀ k, IsReal (o k)) :
    gatedTable o z (fun k => w ⟨k.val % 64, by omega⟩) table = gated o z w := by
  funext c
  simp only [gatedTable, gated, headMean]
  rw [tableSum_eq _ (fun k => mul_real (h _) (h _)), mul_sixtyfourth]
  have e : ∀ d : Fin 64, (⟨256 * (c.val / 256) + (64 * (c.val % 256 / 64) + d.val), by omega⟩ : Fin 512)
      = ⟨64 * (c.val / 64) + d.val, by omega⟩ := fun d => Fin.ext (by simp only; omega)
  simp only [e]

/-- The side conditions of the precondition's operations. -/
theorem preFacts : Cert.Pre_finite3.Facts where
  bcast_S_S8x8192x512 := by decide

/-- Under the precondition the kernel's gated rows are the reference's. -/
theorem row_eq (m : (ℓ : Loc nD τ sig) → Buf (Elt Ideal) ℓ) (h : Cert.Pre_Kernel3Ideal_finite3 (hPre_finite3 := preFacts) m)
    (c : Dev nD) :
    tableRow (m ((c : Thread nD τ).loc main_arg2)) (m ((c : Thread nD τ).loc main_arg3)) (m ((c : Thread nD τ).loc main_arg4))
        (m ((c : Thread nD τ).loc main_arg5))
      = gatedRow (m ((c : Thread nD τ).loc main_arg2)) (m ((c : Thread nD τ).loc main_arg3))
        (m ((c : Thread nD τ).loc main_arg4)) (m ((c : Thread nD τ).loc main_arg5)) := by
  have hf (i : S8x8192x512.Idx) : IsReal ((show FVec Ideal S8x8192x512 .f32 from m ((c : Thread nD τ).loc main_arg2)) i) :=
    real_of_abs infinity.1 (congrFun (h c).1 i)
  have hb (i : S8x8192x512.Idx) : IsReal ((show FVec Ideal S8x8192x512 .f32 from m ((c : Thread nD τ).loc main_arg3)) i) :=
    real_of_abs infinity.1 (congrFun (h c).2 i)
  funext b s
  exact gatedTable_eq _ _ (fun k => (show FVec Ideal S64 .f32 from m ((c : Thread nD τ).loc main_arg5)) (ix1 k))
    fun k => add_real (hf (ix3 b s k)) (hb (ix3 b s k))

end Cert.Kernel3Ideal.Mix

end
-- ==== Proof.Equations.lean ====
module

public import proofs.«01_k».proof.Defs
public import proofs.«01_k».proof.Proof.AttnReference
public import proofs.«01_k».proof.Proof.AttnFinite
public import proofs.«01_k».proof.Proof.FfnReference
public import proofs.«01_k».proof.Proof.Ffn4Reference
public import proofs.«01_k».proof.Proof.MixReference
public import proofs.«01_k».proof.Proof.MixFinite
public import proofs.«01_k».proof.Proof.Gen.KernelIdeal.Frame
public import proofs.«01_k».proof.Proof.Gen.Kernel2Ideal.Value
public import Idealize.ShloMosaic.Lib.Claim

@[expose] public section

set_option maxRecDepth 16384

noncomputable section

/-! Each kernel's result equals its reference's. -/

namespace Cert.Proof

open Idealize.ShloMosaic Idealize.SL.Sem

/-- Over real inputs the attention reference computes the attention kernel's result. -/
theorem attention_eq (Q : FVec Ideal Cert.KernelIdeal.S8x8192x512 .bf16) (K V : FVec Ideal Cert.KernelIdeal.S8x8192x128 .bf16)
    (rb : FVec Ideal Cert.KernelIdeal.S32x8 .f32) (snk : FVec Ideal Cert.KernelIdeal.S8 .f32)
    (h : (∀ i, Cert.KernelIdeal.Attn.IsReal (Q i)) ∧ (∀ i, Cert.KernelIdeal.Attn.IsReal (K i))
      ∧ (∀ i, Cert.KernelIdeal.Attn.IsReal (rb i)) ∧ ∀ i, Cert.KernelIdeal.Attn.IsReal (snk i)) :
    Cert.ReferenceIdeal.Attn.attention Q K V rb snk
      = Cert.KernelIdeal.Attn.result Q K V (Cert.KernelIdeal.Attn.biasTerm rb) snk := by
  obtain ⟨hQ, hK, hrb, hs⟩ := h
  funext y
  have e : y = ix3 (y 0 : Fin 8) (y 1 : Fin 8192) (y 2 : Fin 512) := by funext a; fin_cases a <;> rfl
  refine (congrArg _ e).trans ((Cert.ReferenceIdeal.Attn.attention_apply Q K V rb snk (y 0) (y 1) (y 2)).trans ?_)
  exact (Cert.AttnMath.attend_eq _ (Cert.KernelIdeal.Attn.score_ne_top Q K rb hQ hK hrb _ _ _) (hs _).1 (hs _).2).symm

/-- Over finite inputs the attention kernel and its reference end with equal results. -/
theorem algebraic : Cert.algebraic_KernelIdeal_ReferenceIdeal_pre_finite (hPre_finite := Cert.KernelIdeal.Attn.preFacts) := by
  pair_intro
  · run_from Cert.KernelIdeal.Gen.run_main m g
    simp only [List.flatten_cons, List.flatten_nil, List.append_nil, List.cons_append, List.nil_append, Cert.KernelIdeal.Gen.hostOps0,
      Cert.KernelIdeal.Gen.hostOps0_1, StableHlo.TRef.binary, StableHlo.TRef.ternary, StableHlo.TRef.unary]
    after_results_simp <;> rfl
  · run_from Cert.ReferenceIdeal.Value.run m' g'
    obtain ⟨h0, h1, h2, h3, h4⟩ := hagree c
    rw [Cert.ReferenceIdeal.Attn.term_eq, h0, h1, h2, h3, h4]
    exact (attention_eq _ _ _ _ _ (Cert.KernelIdeal.Attn.reals _ _ _ _ _ (hpre c))).trans
      (Cert.KernelIdeal.Attn.bias_eq m c ▸ (Cert.KernelIdeal.Attn.final m c).symm)

/-- The feed-forward kernel and its reference end with equal results. -/
theorem algebraic2 : Cert.algebraic_Kernel2Ideal_Reference2Ideal := by
  pair_intro
  · run_from Cert.Kernel2Ideal.Gen.run_main m g
  · run_from Cert.Reference2Ideal.Value.run m' g'
    obtain ⟨h0, h1, h2, h3, h4, h5⟩ := hagree c
    rw [Cert.Reference2Ideal.Ffn.reference_eq, h0, h1, h2, h3, h4, h5]
    exact (Cert.Kernel2Ideal.Ffn.final m c).symm

set_option maxHeartbeats 2000000 in
/-- Over finite recurrence outputs, the mixing kernel and its reference end with equal results. -/
theorem algebraic3 : Cert.algebraic_Kernel3Ideal_Reference3Ideal_pre_finite3 (hPre_finite3 := Cert.Kernel3Ideal.Mix.preFacts) := by
  pair_intro
  · run_from Cert.Kernel3Ideal.Gen.run_main m g
  · run_from Cert.Reference3Ideal.Value.run m' g'
    obtain ⟨h0, h1, h2, h3, h4, h5, h6, h7, h8, h9, h10, h11, h12⟩ := hagree c
    rw [Cert.Reference3Ideal.Mix.reference_eq, h0, h1, h2, h3, h4, h5, h6, h7, h8, h9, h10, h11, h12]
    rw [← Cert.Kernel3Ideal.Mix.row_eq m hpre c]
    exact (Cert.Kernel3Ideal.Mix.final m c).symm

/-- The feed-forward kernel over the shorter array and its reference end with equal results. -/
theorem algebraic4 : Cert.algebraic_Kernel4Ideal_Reference4Ideal := by
  pair_intro
  · run_from Cert.Kernel4Ideal.Gen.run_main m g
  · run_from Cert.Reference4Ideal.Value.run m' g'
    obtain ⟨h0, h1, h2, h3, h4, h5⟩ := hagree c
    rw [Cert.Reference4Ideal.Ffn.reference_eq, h0, h1, h2, h3, h4, h5]
    exact (Cert.Kernel4Ideal.Ffn.final m c).symm

end Cert.Proof

end
-- ==== Proof.ProjMath.lean ====
module

public import proofs.«01_k».proof.Proof.MixMath

@[expose] public section

noncomputable section

/-! The formulas of one row of the input projection, over the extended reals. -/

namespace Cert.ProjMath

open Idealize.ShloMosaic Cert.RowMath Cert.MixMath

/-- The product of a row with a column. -/
def dot (x w : Fin 1024 → EReal) : EReal := ∑ k, x k * w k

/-- `silu` of the sum of three neighbouring values, each times its tap. -/
def conv (p : Fin 3 → EReal) (w : Fin 3 → EReal) : EReal :=
  (p 0 * w 0 + p 1 * w 1 + p 2 * w 2) * sigmoid (p 0 * w 0 + p 1 * w 1 + p 2 * w 2)

/-- Entry `c` of a row of eight heads, each divided by its length. -/
def unitRow (q : Fin 512 → EReal) (c : Fin 512) : EReal :=
  q c * Ideal.rsqrt ((∑ d : Fin 64, q ⟨64 * (c.val / 64) + d.val, by omega⟩ * q ⟨64 * (c.val / 64) + d.val, by omega⟩)
    + Ideal.ofBits .f32 0x358637BD#32)

/-- `unitRow` with the heads' sums computed through a table `t`. -/
def unitTable (q : Fin 512 → EReal) (t : Fin 256 → Fin 256 → EReal) (c : Fin 512) : EReal :=
  q c * Ideal.rsqrt (tableSum (fun k => q ⟨256 * (c.val / 256) + k.val, by omega⟩ * q ⟨256 * (c.val / 256) + k.val, by omega⟩)
      (fun k => t k ⟨c.val % 256, by omega⟩) + Ideal.ofBits .f32 0x358637BD#32)

/-- `log (1 + exp x)`, written so that the exponential is of no positive number. -/
def softplus (x : EReal) : EReal := max x 0 + Ideal.log1p (Ideal.exp (0 - max x (-x)))

/-- Row `n` of the products of the rows `x` with a column, one row of zeros before the first and one after the last. -/
def padded (x : Fin 8192 → Fin 1024 → EReal) (w : Fin 1024 → EReal) (n : Nat) : EReal :=
  if h : 1 ≤ n ∧ n ≤ 8192 then dot (x ⟨n - 1, by omega⟩) w else 0

/-- The convolution along the sequence, after `silu`: row `s`, column `j`. -/
def convolved (x : Fin 8192 → Fin 1024 → EReal) (W : Fin 1024 → Fin 2848 → EReal) (C : Fin 3 → Fin 1536 → EReal)
    (s : Fin 8192) (j : Fin 1536) : EReal :=
  conv ![padded x (fun k => W k ⟨768 + j.val, by omega⟩) s.val, padded x (fun k => W k ⟨768 + j.val, by omega⟩) (s.val + 1),
    padded x (fun k => W k ⟨768 + j.val, by omega⟩) (s.val + 2)] (fun d => C d j)

/-- The gate row: sixteen decays, sixteen write strengths, zeros behind. -/
def gateRow (x : Fin 1024 → EReal) (W : Fin 1024 → Fin 2848 → EReal) (A B : Fin 2 → Fin 8 → EReal) (j : Fin 128) : EReal :=
  if h : j.val < 16 then
    -Ideal.exp (A ⟨j.val / 8, by omega⟩ ⟨j.val % 8, by omega⟩)
      * softplus (dot x (fun k => W k ⟨2816 + j.val, by omega⟩) + B ⟨j.val / 8, by omega⟩ ⟨j.val % 8, by omega⟩)
  else if h : j.val < 32 then sigmoid (dot x (fun k => W k ⟨2816 + j.val, by omega⟩)) else 0

end Cert.ProjMath

end
-- ==== Proof.ProjReference.lean ====
module

public import proofs.«01_k».proof.Proof.ProjMath
public import proofs.«01_k».proof.Proof.Gen.Reference5Ideal.Run
public import Idealize.ShloMosaic.Lib.KernelVsHost
public import Idealize.ShloMosaic.Lib.Pipeline.ValueKit

@[expose] public section

set_option maxRecDepth 16384

noncomputable section

/-! What the projection reference computes. Its composed terms are named in layers, and each layer is read off. -/

namespace Cert.Reference5Ideal.Proj

open Cert.Reference5Ideal Cert.Reference5Ideal.Gen Idealize.ShloMosaic Idealize.ShloMosaic.TcCoe Idealize.SL.Sem
open Cert.RowMath Cert.MixMath Cert.ProjMath

/-- Every row times every column of the weights. -/
def prodTerm (X : FVec Ideal S8x8192x1024 .f32) (W : FVec Ideal S1024x2848 .f32) : FVec Ideal S8x8192x2848 .f32 :=
  Host.dotGeneral dot_S8x8192x1024_S1024x2848_S8x8192x2848_2_0_01_1_n_n none X W

/-- The convolution's columns, with a row of zeros before and one after. -/
def padTerm (P : FVec Ideal S8x8192x2848 .f32) : FVec Ideal S8x8194x1536 .f32 :=
  pad S8x8194x1536 ![0, 1, 0] ![0, 1, 0] ![0, 0, 0] (extractStridedSlice S8x8192x1536 ![0, 0, 768] P slices_S8x8192x2848_S8x8192x1536_0_0_768) (sitofp (F := Ideal) .f32 (constantI S_ 32 0#32)) pads_S8x8192x1536_S8x8194x1536_000_110_000 h_S_

/-- One tap, for every row. -/
def tap (c : FVec Ideal S1x1536 .f32) : FVec Ideal S8x8192x1536 .f32 :=
  broadcastInDim S8x8192x1536 ![0, 1, 2] bcast_S1x1x1536_S8x8192x1536_0_1_2 (broadcastInDim S1x1x1536 ![2] bcast_S1536_S1x1x1536_2 (shapeCast _ c shapeCasts_S1x1536_S1536))

/-- The three taps' sum. -/
def tapsTerm (D : FVec Ideal S8x8194x1536 .f32) (C : FVec Ideal S3x1536 .f32) : FVec Ideal S8x8192x1536 .f32 :=
  addf (addf (mulf (extractStridedSlice S8x8192x1536 ![0, 0, 0] D slices_S8x8194x1536_S8x8192x1536_0_0_0) (tap (extractStridedSlice S1x1536 ![0, 0] C slices_S3x1536_S1x1536_0_0))) (mulf (extractStridedSlice S8x8192x1536 ![0, 1, 0] D slices_S8x8194x1536_S8x8192x1536_0_1_0) (tap (extractStridedSlice S1x1536 ![1, 0] C slices_S3x1536_S1x1536_1_0)))) (mulf (extractStridedSlice S8x8192x1536 ![0, 2, 0] D slices_S8x8194x1536_S8x8192x1536_0_2_0) (tap (extractStridedSlice S1x1536 ![2, 0] C slices_S3x1536_S1x1536_2_0)))

/-- `silu`, entry by entry. -/
def siluTerm (Y : FVec Ideal S8x8192x1536 .f32) : FVec Ideal S8x8192x1536 .f32 :=
  mulf Y (Host.divf (broadcastInDim S8x8192x1536 ![] bcast_S_S8x8192x1536 (constant S_ .f32 0x3F800000#32)) (addf (broadcastInDim S8x8192x1536 ![] bcast_S_S8x8192x1536 (constant S_ .f32 0x3F800000#32)) (Host.exp (Host.negf Y))))

/-- Each head of each row divided by its length. -/
def unitTerm (U : FVec Ideal S8x8192x512 .f32) : FVec Ideal S8x8192x8x64 .f32 :=
  mulf (shapeCast _ U shapeCasts_S8x8192x512_S8x8192x8x64) (broadcastInDim S8x8192x8x64 ![0, 1, 2, 3] bcast_S8x8192x8x1_S8x8192x8x64_0_1_2_3 (Host.rsqrt (addf (broadcastInDim S8x8192x8x1 ![0, 1, 2] bcast_S8x8192x8_S8x8192x8x1_0_1_2 (Host.reduceAdd (mulf (shapeCast _ U shapeCasts_S8x8192x512_S8x8192x8x64) (shapeCast _ U shapeCasts_S8x8192x512_S8x8192x8x64)) (constant S_ .f32 0x00000000#32) reducesTo_S8x8192x8x64_S8x8192x8_d3 h_S_)) (broadcastInDim S8x8192x8x1 ![] bcast_S_S8x8192x8x1 (constant S_ .f32 0x358637BD#32)))))

/-- The queries: divided by their lengths and scaled. -/
def queryTerm (Y : FVec Ideal S8x8192x1536 .f32) : FVec Ideal S8x8192x512 .bf16 :=
  truncf .bf16 (shapeCast S8x8192x512 (mulf (unitTerm (extractStridedSlice S8x8192x512 ![0, 0, 0] Y slices_S8x8192x1536_S8x8192x512_0_0_0)) (broadcastInDim S8x8192x8x64 ![] bcast_S_S8x8192x8x64 (constant S_ .f32 0x3E000000#32))) shapeCasts_S8x8192x8x64_S8x8192x512) bitsLt_bf16_f32

/-- The keys: divided by their lengths. -/
def keyTerm (Y : FVec Ideal S8x8192x1536 .f32) : FVec Ideal S8x8192x512 .bf16 :=
  truncf .bf16 (shapeCast S8x8192x512 (unitTerm (extractStridedSlice S8x8192x512 ![0, 0, 512] Y slices_S8x8192x1536_S8x8192x512_0_0_512)) shapeCasts_S8x8192x8x64_S8x8192x512) bitsLt_bf16_f32

/-- The values. -/
def valueTerm (Y : FVec Ideal S8x8192x1536 .f32) : FVec Ideal S8x8192x512 .bf16 :=
  truncf .bf16 (extractStridedSlice S8x8192x512 ![0, 0, 1024] Y slices_S8x8192x1536_S8x8192x512_0_0_1024) bitsLt_bf16_f32

/-- The arguments of the decay's `softplus`. -/
def argTerm (P : FVec Ideal S8x8192x2848 .f32) (B : FVec Ideal S2x8 .f32) : FVec Ideal S8x8192x2x8 .f32 :=
  addf (shapeCast _ (extractStridedSlice S8x8192x16 ![0, 0, 2816] P slices_S8x8192x2848_S8x8192x16_0_0_2816) shapeCasts_S8x8192x16_S8x8192x2x8) (broadcastInDim S8x8192x2x8 ![0, 1, 2, 3] bcast_S1x1x2x8_S8x8192x2x8_0_1_2_3 (broadcastInDim S1x1x2x8 ![2, 3] bcast_S2x8_S1x1x2x8_2_3 B))

/-- `softplus`, entry by entry. -/
def softTerm (G : FVec Ideal S8x8192x2x8 .f32) : FVec Ideal S8x8192x2x8 .f32 :=
  select (cmpf .une (subf G (broadcastInDim S8x8192x2x8 ![] bcast_S_S8x8192x2x8 (constant S_ .f32 0x00000000#32))) (subf G (broadcastInDim S8x8192x2x8 ![] bcast_S_S8x8192x2x8 (constant S_ .f32 0x00000000#32)))) (addf G (broadcastInDim S8x8192x2x8 ![] bcast_S_S8x8192x2x8 (constant S_ .f32 0x00000000#32))) (addf (maximumf G (broadcastInDim S8x8192x2x8 ![] bcast_S_S8x8192x2x8 (constant S_ .f32 0x00000000#32))) (Host.log1p (Host.exp (Host.negf (Host.absf (subf G (broadcastInDim S8x8192x2x8 ![] bcast_S_S8x8192x2x8 (constant S_ .f32 0x00000000#32))))))))

/-- The decays. -/
def decayTerm (S : FVec Ideal S8x8192x2x8 .f32) (A : FVec Ideal S2x8 .f32) : FVec Ideal S8x8192x16 .f32 :=
  shapeCast _ (mulf (broadcastInDim S8x8192x2x8 ![0, 1, 2, 3] bcast_S1x1x2x8_S8x8192x2x8_0_1_2_3 (broadcastInDim S1x1x2x8 ![2, 3] bcast_S2x8_S1x1x2x8_2_3 (Host.negf (Host.exp A)))) S) shapeCasts_S8x8192x2x8_S8x8192x16

/-- The write strengths. -/
def strengthTerm (P : FVec Ideal S8x8192x2848 .f32) : FVec Ideal S8x8192x16 .f32 :=
  Host.divf (broadcastInDim S8x8192x16 ![] bcast_S_S8x8192x16 (constant S_ .f32 0x3F800000#32)) (addf (broadcastInDim S8x8192x16 ![] bcast_S_S8x8192x16 (constant S_ .f32 0x3F800000#32)) (Host.exp (Host.negf (extractStridedSlice S8x8192x16 ![0, 0, 2832] P slices_S8x8192x2848_S8x8192x16_0_0_2832))))

/-- The gate rows: decays, write strengths, zeros. -/
def gatesTerm (D S : FVec Ideal S8x8192x16 .f32) : FVec Ideal S8x8192x128 .f32 :=
  concatenate S8x8192x128 2 [⟨S8x8192x16, D⟩, ⟨S8x8192x16, S⟩, ⟨S8x8192x96, broadcastInDim S8x8192x96 ![] bcast_S_S8x8192x96 (constant S_ .f32 0x00000000#32)⟩] concatenates_S8x8192x16_S8x8192x16_S8x8192x96_S8x8192x128_d2

variable (X : FVec Ideal S8x8192x1024 .f32) (W : FVec Ideal S1024x2848 .f32) (C : FVec Ideal S3x1536 .f32) (A B : FVec Ideal S2x8 .f32)

/-- An entry of the products. -/
theorem prod_apply (b : Fin 8) (s : Fin 8192) (j : Fin 2848) :
    prodTerm X W (ix3 b s j) = dot (fun k => X (ix3 b s k)) (fun k => W (ix2 k j)) := by
  pointwise [prodTerm, dot]

/-- An entry of the padded products: zero in the first and the last row. -/
theorem pad_apply (b : Fin 8) (n : Fin 8194) (j : Fin 1536) :
    padTerm (prodTerm X W) (ix3 b n j) = padded (fun s k => X (ix3 b s k)) (fun k => W (ix2 k ⟨768 + j.val, by omega⟩)) n.val := by
  pointwise [padTerm, prodTerm, padded, dot]
  have e : FloatOps.sitofp (F := Ideal) .f32 0#32 = (0 : EReal) := by
    show (((0#32 : BitVec 32).toInt : ℝ) : EReal) = 0
    simp
  rw [e]
  have hn := n.isLt
  by_cases h : 1 ≤ n.val ∧ n.val ≤ 8192
  · have h' : 1 ≤ n.val ∧ n.val - 1 < 8192 := ⟨h.1, by omega⟩
    rw [dif_pos h, dif_pos h']
  · have h' : ¬(1 ≤ n.val ∧ n.val - 1 < 8192) := by omega
    rw [dif_neg h, dif_neg h']

/-- An entry of the three taps' sum. -/
theorem taps_apply (D : FVec Ideal S8x8194x1536 .f32) (b : Fin 8) (s : Fin 8192) (j : Fin 1536) :
    siluTerm (tapsTerm D C) (ix3 b s j) = conv ![D (ix3 b ⟨s.val, by omega⟩ j : S8x8194x1536.Idx), D (ix3 b ⟨s.val + 1, by omega⟩ j : S8x8194x1536.Idx),
      D (ix3 b ⟨s.val + 2, by omega⟩ j : S8x8194x1536.Idx)] (fun d => C (ix2 d j)) := by
  pointwise [siluTerm, tapsTerm, tap, conv, sigmoid]
  simp only [zero_sub, Nat.add_comm s.val]

/-- The convolution along the sequence, after `silu`. -/
theorem convolved_apply (b : Fin 8) (s : Fin 8192) (j : Fin 1536) :
    siluTerm (tapsTerm (padTerm (prodTerm X W)) C) (ix3 b s j)
      = convolved (fun s k => X (ix3 b s k)) (fun k j => W (ix2 k j)) (fun d j => C (ix2 d j)) s j := by
  rw [taps_apply, pad_apply, pad_apply, pad_apply]
  rfl

/-- An entry of the normalised and scaled queries. -/
theorem query_apply (Y : FVec Ideal S8x8192x1536 .f32) (b : Fin 8) (s : Fin 8192) (j : Fin 512) :
    queryTerm Y (ix3 b s j) = unitRow (fun k => Y (ix3 b s ⟨k.val, by omega⟩ : S8x8192x1536.Idx)) j * Ideal.ofBits .f32 0x3E000000#32 := by
  pointwise [queryTerm, unitTerm, unitRow]
  simp only [Nat.mul_comm 64]

/-- An entry of the normalised keys. -/
theorem key_apply (Y : FVec Ideal S8x8192x1536 .f32) (b : Fin 8) (s : Fin 8192) (j : Fin 512) :
    keyTerm Y (ix3 b s j) = unitRow (fun k => Y (ix3 b s ⟨512 + k.val, by omega⟩ : S8x8192x1536.Idx)) j := by
  pointwise [keyTerm, unitTerm, unitRow]
  simp only [Nat.mul_comm 64]

/-- An entry of the values. -/
theorem value_apply (Y : FVec Ideal S8x8192x1536 .f32) (b : Fin 8) (s : Fin 8192) (j : Fin 512) :
    valueTerm Y (ix3 b s j) = Y (ix3 b s ⟨1024 + j.val, by omega⟩ : S8x8192x1536.Idx) := by
  pointwise [valueTerm]

/-- The reference's softplus is the row's. -/
theorem soft_apply (G : FVec Ideal S8x8192x2x8 .f32) (i : S8x8192x2x8.Idx) : softTerm G i = softplus (G i) := by
  pointwise [softTerm, softplus]
  rw [if_neg (not_not.2 rfl), zero_sub]
  rfl

/-- A decay, by its direction and head. -/
theorem decay_apply (b : Fin 8) (s : Fin 8192) (j : Fin 16) :
    decayTerm (softTerm (argTerm (prodTerm X W) B)) A (ix3 b s j)
      = -Ideal.exp (A (ix2 ⟨j.val / 8, by omega⟩ ⟨j.val % 8, by omega⟩)) * softplus (dot (fun k => X (ix3 b s k))
          (fun k => W (ix2 k ⟨2816 + j.val, by omega⟩)) + B (ix2 ⟨j.val / 8, by omega⟩ ⟨j.val % 8, by omega⟩)) := by
  pointwise [decayTerm, soft_apply, argTerm, prodTerm, dot]

/-- A strength, by its direction and head. -/
theorem strength_apply (b : Fin 8) (s : Fin 8192) (j : Fin 16) :
    strengthTerm (prodTerm X W) (ix3 b s j) = sigmoid (dot (fun k => X (ix3 b s k)) (fun k => W (ix2 k ⟨2832 + j.val, by omega⟩))) := by
  pointwise [strengthTerm, prodTerm, sigmoid, dot]
  rw [zero_sub]

/-- An entry of decays, strengths and zeros side by side. -/
theorem gates_apply (D S : FVec Ideal S8x8192x16 .f32) (b : Fin 8) (s : Fin 8192) (j : Fin 128) :
    gatesTerm D S (ix3 b s j) = if h : j.val < 16 then D (ix3 b s ⟨j.val, h⟩) else
      if h' : j.val < 32 then S (ix3 b s ⟨j.val - 16, by omega⟩) else 0 := by
  pointwise [gatesTerm]
  by_cases h : j.val < 16
  · rw [dif_pos h, dif_pos h]
  · rw [dif_neg h, dif_neg h]
    by_cases h' : j.val < 32
    · rw [dif_pos h', dif_pos (by omega)]
    · rw [dif_neg h', dif_neg (by omega)]

/-- The gate rows, whole. -/
theorem gateRow_apply (b : Fin 8) (s : Fin 8192) (j : Fin 128) :
    gatesTerm (decayTerm (softTerm (argTerm (prodTerm X W) B)) A) (strengthTerm (prodTerm X W)) (ix3 b s j)
      = gateRow (fun k => X (ix3 b s k)) (fun k j => W (ix2 k j)) (fun d h => A (ix2 d h)) (fun d h => B (ix2 d h)) j := by
  rw [gates_apply, gateRow]
  by_cases h : j.val < 16
  · rw [dif_pos h, dif_pos h, decay_apply]
  · rw [dif_neg h, dif_neg h]
    by_cases h' : j.val < 32
    · rw [dif_pos h', dif_pos h', strength_apply]
      exact congrArg (fun d : Fin 2848 => sigmoid (dot (fun k => X (ix3 b s k)) (fun k => W (ix2 k d)))) (Fin.ext (by simp only; omega))
    · rw [dif_neg h', dif_neg h']

section Terms

variable (m : (ℓ : Loc nD τ sig) → Buf (Elt Ideal) ℓ) (c : Dev nD)

/-- The products, of the program's arguments. -/
def prodOf : FVec Ideal S8x8192x2848 .f32 := prodTerm (m ((c : Thread nD τ).loc main_arg0)) (m ((c : Thread nD τ).loc main_arg1))

/-- The convolved rows, of the program's arguments. -/
def convolvedOf : FVec Ideal S8x8192x1536 .f32 := siluTerm (tapsTerm (padTerm (prodOf m c)) (m ((c : Thread nD τ).loc main_arg2)))

/-! The composed terms, layer by layer. -/

/-- The program's queries are the composed term. -/
theorem query_eq : Value.res_main_v75 m c = queryTerm (convolvedOf m c) := by
  unfold Value.res_main_v75
  rfl

/-- The program's keys are the composed term. -/
theorem key_eq : Value.res_main_v77 m c = keyTerm (convolvedOf m c) := by
  unfold Value.res_main_v77
  rfl

/-- The program's values are the composed term. -/
theorem value_eq : Value.res_main_v78 m c = valueTerm (convolvedOf m c) := by
  unfold Value.res_main_v78
  rfl

/-- The program's decays and strengths are the composed term. -/
theorem gates_eq : Value.res_main_v82 m c
    = gatesTerm (decayTerm (softTerm (argTerm (prodOf m c) (m ((c : Thread nD τ).loc main_arg4)))) (m ((c : Thread nD τ).loc main_arg3)))
      (strengthTerm (prodOf m c)) := by
  unfold Value.res_main_v82
  rfl

end Terms

/-- The attention's queries. -/
def attQueryTerm (P : FVec Ideal S8x8192x2848 .f32) : FVec Ideal S8x8192x512 .bf16 :=
  truncf .bf16 (mulf (extractStridedSlice S8x8192x512 ![0, 0, 0] P slices_S8x8192x2848_S8x8192x512_0_0_0) (broadcastInDim S8x8192x512 ![] bcast_S_S8x8192x512 (constant S_ .f32 0x3E000000#32))) bitsLt_bf16_f32

/-- The attention's keys. -/
def attKeyTerm (P : FVec Ideal S8x8192x2848 .f32) : FVec Ideal S8x8192x128 .bf16 :=
  truncf .bf16 (extractStridedSlice S8x8192x128 ![0, 0, 512] P slices_S8x8192x2848_S8x8192x128_0_0_512) bitsLt_bf16_f32

/-- The attention's values. -/
def attValueTerm (P : FVec Ideal S8x8192x2848 .f32) : FVec Ideal S8x8192x128 .bf16 :=
  truncf .bf16 (extractStridedSlice S8x8192x128 ![0, 0, 640] P slices_S8x8192x2848_S8x8192x128_0_0_640) bitsLt_bf16_f32

/-- The recurrence's gate argument. -/
def gateArgTerm (P : FVec Ideal S8x8192x2848 .f32) : FVec Ideal S8x8192x512 .bf16 :=
  truncf .bf16 (extractStridedSlice S8x8192x512 ![0, 0, 2304] P slices_S8x8192x2848_S8x8192x512_0_0_2304) bitsLt_bf16_f32

/-- An entry of the attention's queries. -/
theorem attQuery_apply (b : Fin 8) (s : Fin 8192) (j : Fin 512) : attQueryTerm (prodTerm X W) (ix3 b s j)
    = dot (fun k => X (ix3 b s k)) (fun k => W (ix2 k ⟨j.val, by omega⟩)) * Ideal.ofBits .f32 0x3E000000#32 := by
  pointwise [attQueryTerm, prodTerm, dot]

/-- An entry of the attention's keys. -/
theorem attKey_apply (b : Fin 8) (s : Fin 8192) (j : Fin 128) : attKeyTerm (prodTerm X W) (ix3 b s j)
    = dot (fun k => X (ix3 b s k)) (fun k => W (ix2 k ⟨512 + j.val, by omega⟩)) := by
  pointwise [attKeyTerm, prodTerm, dot]

/-- An entry of the attention's values. -/
theorem attValue_apply (b : Fin 8) (s : Fin 8192) (j : Fin 128) : attValueTerm (prodTerm X W) (ix3 b s j)
    = dot (fun k => X (ix3 b s k)) (fun k => W (ix2 k ⟨640 + j.val, by omega⟩)) := by
  pointwise [attValueTerm, prodTerm, dot]

/-- An entry of the gate's argument. -/
theorem gateArg_apply (b : Fin 8) (s : Fin 8192) (j : Fin 512) : gateArgTerm (prodTerm X W) (ix3 b s j)
    = dot (fun k => X (ix3 b s k)) (fun k => W (ix2 k ⟨2304 + j.val, by omega⟩)) := by
  pointwise [gateArgTerm, prodTerm, dot]

end Cert.Reference5Ideal.Proj

end
-- ==== Proof.ProjBlock.lean ====
module

public import proofs.«01_k».proof.Proof.ProjMath
public import proofs.«01_k».proof.Proof.Gen.Kernel5Ideal.Frame
public import Idealize.ShloMosaic.Lib.KernelVsHost
public import Idealize.ShloMosaic.Lib.Pipeline.ValueKit

@[expose] public section

set_option maxRecDepth 16384

noncomputable section

/-! What one grid point of the projection kernel computes for the 512 rows of its block. -/

namespace Cert.Kernel5Ideal.Proj

open Cert.Kernel5Ideal Cert.Kernel5Ideal.Gen Idealize.ShloMosaic Idealize.ShloMosaic.TcCoe Idealize.SL.Sem
open Cert.RowMath Cert.MixMath Cert.ProjMath

/-- The attention's queries, scaled. -/
theorem qa_apply (X : FVec Ideal S1x512x1024 .f32) (W : FVec Ideal S1024x768 .bf16) (r : Fin 512) (j : Fin 512) :
    k0_pay6 (F := Ideal) X W (ix3 (0 : Fin 1) r j)
      = dot (fun k => X (ix3 0 r k)) (fun k => W (ix2 k ⟨j.val, by omega⟩)) * Ideal.ofBits .f32 0x3E000000#32 := by
  pointwise [k0_pay6, k0_pay5, k0_pay4, k0_pay3, dot]

/-- The attention's keys. -/
theorem ka_apply (X : FVec Ideal S1x512x1024 .f32) (W : FVec Ideal S1024x768 .bf16) (r : Fin 512) (j : Fin 128) :
    k0_pay7 (F := Ideal) X W (ix3 (0 : Fin 1) r j)
      = dot (fun k => X (ix3 0 r k)) (fun k => W (ix2 k ⟨512 + j.val, by omega⟩)) := by
  pointwise [k0_pay7, k0_pay5, k0_pay4, k0_pay3, dot]

/-- The attention's values. -/
theorem va_apply (X : FVec Ideal S1x512x1024 .f32) (W : FVec Ideal S1024x768 .bf16) (r : Fin 512) (j : Fin 128) :
    k0_pay8 (F := Ideal) X W (ix3 (0 : Fin 1) r j)
      = dot (fun k => X (ix3 0 r k)) (fun k => W (ix2 k ⟨640 + j.val, by omega⟩)) := by
  pointwise [k0_pay8, k0_pay5, k0_pay4, k0_pay3, dot]

/-- The recurrence's gate argument. -/
theorem z_apply (X : FVec Ideal S1x512x1024 .f32) (W : FVec Ideal S1024x512 .bf16) (r : Fin 512) (j : Fin 512) :
    k0_pay9 (F := Ideal) X W (ix3 (0 : Fin 1) r j) = dot (fun k => X (ix3 0 r k)) (fun k => W (ix2 k j)) := by
  pointwise [k0_pay9, k0_pay4, k0_pay3, dot]

/-- The kernel's comparisons of a lane's number. -/
theorem lane_lt : ∀ j : Fin 128, IntOp.cmpi .slt (BitVec.ofNat 32 j.val) 16#32 = (if j.val < 16 then 1#1 else 0#1)
    ∧ IntOp.cmpi .slt (BitVec.ofNat 32 j.val) 32#32 = (if j.val < 32 then 1#1 else 0#1) := by decide +kernel

/-- The lanes of the gate row: the first sixteen hold the decay, the next sixteen the write strength, the rest zero. -/
theorem gb_apply (X : FVec Ideal S1x512x1024 .f32) (W : FVec Ideal S1024x128 .bf16) (D N : FVec Ideal S1x128 .f32)
    (r : Fin 512) (j : Fin 128) :
    k0_pay10 (F := Ideal) (k0_pay4 X) W D N (ix3 (0 : Fin 1) r j)
      = if j.val < 16 then N (ix2 0 j) * softplus (dot (fun k => X (ix3 0 r k)) (fun k => W (ix2 k j)) + D (ix2 0 j))
        else if j.val < 32 then sigmoid (dot (fun k => X (ix3 0 r k)) (fun k => W (ix2 k j))) else 0 := by
  pointwise [k0_pay10, k0_pay4, k0_pay3, dot, softplus, sigmoid]
  rw [(lane_lt j).1, (lane_lt j).2]
  split_ifs <;> rfl

/-- The rows of the tile with the eight rows before and after it, those scaled by `s` and `u`. -/
def extTerm (v1 : FVec Ideal S512x1024 .f32) (s u : EReal) (v73 v77 : FVec Ideal S1x8x1024 .f32) : FVec Ideal S528x1024 .f32 :=
  concatenate S528x1024 0 [⟨S8x1024, mulf (shapeCast S8x1024 v73 shapeCasts_S1x8x1024_S8x1024) (broadcast S8x1024 s)⟩,
    ⟨S512x1024, v1⟩, ⟨S8x1024, mulf (shapeCast S8x1024 v77 shapeCasts_S1x8x1024_S8x1024) (broadcast S8x1024 u)⟩]
    concatenates_S8x1024_S512x1024_S8x1024_S528x1024_d0

/-- The first eight rows of the extended tile are the rows before it, scaled by their mask. -/
theorem ext_lo (v1 : FVec Ideal S512x1024 .f32) (s u : EReal) (v73 v77 : FVec Ideal S1x8x1024 .f32) (r : Fin 8) (k : Fin 1024) :
    extTerm v1 s u v73 v77 (ix2 ⟨r.val, by omega⟩ k : S528x1024.Idx) = v73 (ix3 0 r k) * s := by
  pointwise [extTerm]

/-- The middle rows of the extended tile are the tile's. -/
theorem ext_mid (v1 : FVec Ideal S512x1024 .f32) (s u : EReal) (v73 v77 : FVec Ideal S1x8x1024 .f32) (r : Fin 512) (k : Fin 1024) :
    extTerm v1 s u v73 v77 (ix2 ⟨8 + r.val, by omega⟩ k : S528x1024.Idx) = v1 (ix2 r k) := by
  pointwise [extTerm]

/-- The last eight rows of the extended tile are the rows after it, scaled by their mask. -/
theorem ext_hi (v1 : FVec Ideal S512x1024 .f32) (s u : EReal) (v73 v77 : FVec Ideal S1x8x1024 .f32) (r : Fin 8) (k : Fin 1024) :
    extTerm v1 s u v73 v77 (ix2 ⟨520 + r.val, by omega⟩ k : S528x1024.Idx) = v77 (ix3 0 r k) * u := by
  pointwise [extTerm]
  rw [dif_neg (by omega), dif_neg (by omega)]
  exact congrArg (fun d : Fin 8 => v77 (ix3 0 d k) * u) (Fin.ext (by simp only; omega))

/-- The rows' products with the weights. -/
def prodTerm (E : FVec Ideal S528x1024 .f32) (W : FVec Ideal S1024x1536 .bf16) : FVec Ideal S528x1536 .f32 :=
  matmul dot_S528x1024_S1024x1536_S528x1536_1_0_0_1_n_n none (truncf .bf16 E bitsLt_bf16_f32 : FVec Ideal S528x1024 .bf16)
    (shapeCast S1024x1536 W shapeCasts_S1024x1536_S1024x1536) (constant S528x1536 .f32 0x00000000#32)

/-- The products of the row before. -/
def before (P : FVec Ideal S528x1536 .f32) : FVec Ideal S528x1536 .f32 := dynamicRotate 0 1#32 none P rotates_S528x1536_d0

/-- The products of the row after. -/
def behind (P : FVec Ideal S528x1536 .f32) : FVec Ideal S528x1536 .f32 := dynamicRotate 0 527#32 none P rotates_S528x1536_d0

/-- Three taps of the products, before `silu`. -/
def tapsTerm (P : FVec Ideal S528x1536 .f32) (C : FVec Ideal S3x1536 .f32) : FVec Ideal S512x1536 .f32 :=
  extractStridedSlice S512x1536 ![8, 0]
    (addf (addf (mulf (before P) (broadcastTo S528x1536 (extractStridedSlice S1x1536 ![0, 0] C slices_S3x1536_o0_0_S1x1536) broadcasts_S1x1536_S528x1536))
        (mulf P (broadcastTo S528x1536 (extractStridedSlice S1x1536 ![1, 0] C slices_S3x1536_o1_0_S1x1536) broadcasts_S1x1536_S528x1536)))
      (mulf (behind P) (broadcastTo S528x1536 (extractStridedSlice S1x1536 ![2, 0] C slices_S3x1536_o2_0_S1x1536) broadcasts_S1x1536_S528x1536)))
    slices_S528x1536_o8_0_S512x1536

/-- `silu`, entry by entry. -/
def siluTerm (Y : FVec Ideal S512x1536 .f32) : FVec Ideal S512x1536 .f32 :=
  mulf Y (divf (broadcast S512x1536 (Scalar.ofBits .f32 0x3F800000#32)) (addf (broadcast S512x1536 (Scalar.ofBits .f32 0x3F800000#32))
    (exp (subf (broadcast S512x1536 (Scalar.ofBits .f32 0x00000000#32)) Y))))

/-- The convolved tile is the activation of the sum of the taps over the product of the extended tile. -/
theorem pay12_eq (v1 : FVec Ideal S512x1024 .f32) (s : EReal) (u : BitVec 1) (v73 v77 : FVec Ideal S1x8x1024 .f32)
    (W : FVec Ideal S1024x1536 .bf16) (C : FVec Ideal S3x1536 .f32) :
    k0_pay12 (F := Ideal) v1 s u v73 v77 W C
      = siluTerm (tapsTerm (prodTerm (extTerm v1 s (Scalar.sitofp (F := Ideal) .f32 (Scalar.extui u : BitVec 32)) v73 v77) W) C) := rfl

/-- The shifted slice for the first tap holds the row before. -/
theorem before_apply (P : FVec Ideal S528x1536 .f32) (r : Fin 512) (j : Fin 1536) :
    before P (ix2 ⟨8 + r.val, by omega⟩ j : S528x1536.Idx) = P (ix2 ⟨7 + r.val, by omega⟩ j : S528x1536.Idx) := by
  refine dynamicRotate_apply _ _ _ _ _ _ fun b => ?_
  fin_cases b
  · show 7 + r.val = (8 + r.val + 528 - 1 % 528) % 528
    omega
  · rfl

/-- The shifted slice for the last tap holds the row after. -/
theorem behind_apply (P : FVec Ideal S528x1536 .f32) (r : Fin 512) (j : Fin 1536) :
    behind P (ix2 ⟨8 + r.val, by omega⟩ j : S528x1536.Idx) = P (ix2 ⟨9 + r.val, by omega⟩ j : S528x1536.Idx) := by
  refine dynamicRotate_apply _ _ _ _ _ _ fun b => ?_
  fin_cases b
  · show 9 + r.val = (8 + r.val + 528 - 527 % 528) % 528
    omega
  · rfl

/-- An entry of the product is the sum over the inner dimension. -/
theorem prod_apply (E : FVec Ideal S528x1024 .f32) (W : FVec Ideal S1024x1536 .bf16) (r : Fin 528) (j : Fin 1536) :
    prodTerm E W (ix2 r j) = dot (fun k => E (ix2 r k)) (fun k => W (ix2 k j)) := by
  pointwise [prodTerm, dot]

/-- An entry of the three taps' sum. -/
theorem conv_apply (P : FVec Ideal S528x1536 .f32) (C : FVec Ideal S3x1536 .f32) (r : Fin 512) (j : Fin 1536) :
    siluTerm (tapsTerm P C) (ix2 r j)
      = conv ![P (ix2 ⟨7 + r.val, by omega⟩ j : S528x1536.Idx), P (ix2 ⟨8 + r.val, by omega⟩ j : S528x1536.Idx),
          P (ix2 ⟨9 + r.val, by omega⟩ j : S528x1536.Idx)] (fun d => C (ix2 d j)) := by
  have e : tapsTerm P C (ix2 r j) = P (ix2 ⟨7 + r.val, by omega⟩ j : S528x1536.Idx) * C (ix2 0 j)
      + P (ix2 ⟨8 + r.val, by omega⟩ j : S528x1536.Idx) * C (ix2 1 j) + P (ix2 ⟨9 + r.val, by omega⟩ j : S528x1536.Idx) * C (ix2 2 j) := by
    pointwise [tapsTerm]
    exact congrArg₂ (· + ·) (congrArg₂ (· + ·) (congrArg (· * C (ix2 0 j)) (before_apply P r j)) rfl)
      (congrArg (· * C (ix2 2 j)) (behind_apply P r j))
  pointwise [siluTerm]
  rw [e]
  rfl

/-- Eight heads of a block of rows, each divided by its length: the columns of the first half. -/
theorem unit_lo (q : FVec Ideal S512x512 .f32) (T : FVec Ideal S256x256 .bf16) (r : Fin 512) (c : Fin 256) :
    k0_pay1 (F := Ideal) q (k0_pay19 q T) (ix3 (0 : Fin 1) r ⟨c.val, by omega⟩ : S1x512x512.Idx)
      = unitTable (fun k => q (ix2 r k)) (fun k j => T (ix2 k j)) ⟨c.val, by omega⟩ := by
  pointwise [k0_pay1, k0_pay19, unitTable, tableSum]
  blk_point []

/-- The columns of the second half. -/
theorem unit_hi (q : FVec Ideal S512x512 .f32) (T : FVec Ideal S256x256 .bf16) (r : Fin 512) (c : Fin 256) :
    k0_pay1 (F := Ideal) q (k0_pay19 q T) (ix3 (0 : Fin 1) r ⟨256 + c.val, by omega⟩ : S1x512x512.Idx)
      = unitTable (fun k => q (ix2 r k)) (fun k j => T (ix2 k j)) ⟨256 + c.val, by omega⟩ := by
  pointwise [k0_pay1, k0_pay19, unitTable, tableSum]
  blk_point []

/-- Eight heads of a block of rows, each divided by its length. -/
theorem unit_apply (q : FVec Ideal S512x512 .f32) (T : FVec Ideal S256x256 .bf16) (r c : Fin 512) :
    k0_pay1 (F := Ideal) q (k0_pay19 q T) (ix3 (0 : Fin 1) r c : S1x512x512.Idx)
      = unitTable (fun k => q (ix2 r k)) (fun k j => T (ix2 k j)) c := by
  by_cases h : c.val < 256
  · exact unit_lo q T r ⟨c.val, h⟩
  · obtain ⟨d, e⟩ : ∃ d : Fin 256, c = ⟨256 + d.val, by omega⟩ := ⟨⟨c.val - 256, by omega⟩, by ext; simp only; omega⟩
    rw [e]
    exact unit_hi q T r d

/-- The queries' computation over the block of queries. -/
def queryTerm (q : FVec Ideal S512x512 .f32) (T : FVec Ideal S256x256 .bf16) : FVec Ideal S1x512x512 .bf16 :=
  k0_pay18 q (truncf .bf16 (mulf q q) bitsLt_bf16_f32)
    (subf (mulf q q) (extf .f32 (truncf .bf16 (mulf q q) bitsLt_bf16_f32 : FVec Ideal S512x512 .bf16) bitsLt_bf16_f32)) T

/-- It is the keys' computation, scaled at the end. -/
theorem query_apply (q : FVec Ideal S512x512 .f32) (T : FVec Ideal S256x256 .bf16) (r c : Fin 512) :
    queryTerm q T (ix3 (0 : Fin 1) r c : S1x512x512.Idx)
      = unitTable (fun k => q (ix2 r k)) (fun k j => T (ix2 k j)) c * Ideal.ofBits .f32 0x3E000000#32 := by
  rw [← unit_apply]
  pointwise [queryTerm, k0_pay18, k0_pay1, k0_pay19]

/-- The normalised queries the body writes are the query term. -/
theorem pay18_eq (v1 s u v73 v77 W C T) : k0_pay18 (F := Ideal) (k0_pay13 v1 s u v73 v77 W C) (k0_pay16 v1 s u v73 v77 W C)
    (k0_pay17 v1 s u v73 v77 W C) T = queryTerm (k0_pay13 v1 s u v73 v77 W C) T := rfl

/-- An entry of the queries' tile: the first 512 columns. -/
theorem pay13_apply (v1 : FVec Ideal S512x1024 .f32) (s : EReal) (u : BitVec 1) (v73 v77 : FVec Ideal S1x8x1024 .f32)
    (W : FVec Ideal S1024x1536 .bf16) (C : FVec Ideal S3x1536 .f32) (r c : Fin 512) :
    k0_pay13 (F := Ideal) v1 s u v73 v77 W C (ix2 r c) = k0_pay12 v1 s u v73 v77 W C (ix2 r ⟨c.val, by omega⟩ : S512x1536.Idx) := by
  pointwise [k0_pay13]

/-- An entry of the keys' tile: the next 512 columns. -/
theorem pay14_apply (v1 : FVec Ideal S512x1024 .f32) (s : EReal) (u : BitVec 1) (v73 v77 : FVec Ideal S1x8x1024 .f32)
    (W : FVec Ideal S1024x1536 .bf16) (C : FVec Ideal S3x1536 .f32) (r c : Fin 512) :
    k0_pay14 (F := Ideal) v1 s u v73 v77 W C (ix2 r c) = k0_pay12 v1 s u v73 v77 W C (ix2 r ⟨512 + c.val, by omega⟩ : S512x1536.Idx) := by
  pointwise [k0_pay14]

/-- An entry of the values' tile: the last 512 columns. -/
theorem pay2_apply (Y : FVec Ideal S512x1536 .f32) (r c : Fin 512) :
    k0_pay2 (F := Ideal) Y (ix3 (0 : Fin 1) r c) = Y (ix2 r ⟨1024 + c.val, by omega⟩ : S512x1536.Idx) := by
  pointwise [k0_pay2]

/-- An entry of the tile of rows. -/
theorem pay3_apply (X : FVec Ideal S1x512x1024 .f32) (r : Fin 512) (k : Fin 1024) :
    k0_pay3 (F := Ideal) X (ix2 r k) = X (ix3 0 r k) := by
  pointwise [k0_pay3]

/-- The factor of the rows before the tile: zero on the first tile. -/
theorem first_eq : ∀ q : Fin 16, k0_pay11 (F := Ideal) (BitVec.ofNat 32 q.val) = if q.val = 0 then 0 else 1 := by
  have e : ∀ q : Fin 16, (Scalar.extui (Scalar.cmpi .sgt (BitVec.ofNat 32 q.val) 0#32) : BitVec 32)
      = if q.val = 0 then 0#32 else 1#32 := by decide
  intro q
  show Scalar.sitofp (F := Ideal) .f32 (Scalar.extui (Scalar.cmpi .sgt (BitVec.ofNat 32 q.val) 0#32) : BitVec 32) = _
  rw [e q]
  split_ifs
  · show (((0#32 : BitVec 32).toInt : ℝ) : EReal) = 0
    simp
  · show (((1#32 : BitVec 32).toInt : ℝ) : EReal) = 1
    simp

/-- The factor of the rows after the tile: zero on the last tile. -/
theorem last_eq : ∀ q : Fin 16, Scalar.sitofp (F := Ideal) .f32
    (Scalar.extui (Scalar.cmpi .slt (BitVec.ofNat 32 q.val) 15#32) : BitVec 32) = if q.val = 15 then 0 else 1 := by
  have e : ∀ q : Fin 16, (Scalar.extui (Scalar.cmpi .slt (BitVec.ofNat 32 q.val) 15#32) : BitVec 32)
      = if q.val = 15 then 0#32 else 1#32 := by decide
  intro q
  rw [e q]
  split_ifs
  · show (((0#32 : BitVec 32).toInt : ℝ) : EReal) = 0
    simp
  · show (((1#32 : BitVec 32).toInt : ℝ) : EReal) = 1
    simp

end Cert.Kernel5Ideal.Proj

end
-- ==== Proof.ProjArray.lean ====
module

public import proofs.«01_k».proof.Proof.ProjBlock

@[expose] public section

set_option maxRecDepth 16384

noncomputable section

/-! The blocks the projection kernel reads, over the argument arrays of its program. -/

namespace Cert.Kernel5Ideal.Proj

open Cert.Kernel5Ideal Cert.Kernel5Ideal.Gen Idealize.ShloMosaic Idealize.ShloMosaic.TcCoe Idealize.SL.Sem
open Cert.RowMath Cert.MixMath Cert.ProjMath

/-! The arrays computed before the call. -/

/-- The weights' first columns. -/
def attW (W : FVec Ideal S1024x2848 .f32) : FVec Ideal S1024x768 .bf16 :=
  truncf .bf16 (extractStridedSlice S1024x768 ![0, 0] W slices_S1024x2848_S1024x768_0_0) bitsLt_bf16_f32

/-- The weights' columns that the convolution follows. -/
def midW (W : FVec Ideal S1024x2848 .f32) : FVec Ideal S1024x1536 .bf16 :=
  truncf .bf16 (extractStridedSlice S1024x1536 ![0, 768] W slices_S1024x2848_S1024x1536_0_768) bitsLt_bf16_f32

/-- The weights' columns of the gate argument. -/
def zW (W : FVec Ideal S1024x2848 .f32) : FVec Ideal S1024x512 .bf16 :=
  truncf .bf16 (extractStridedSlice S1024x512 ![0, 2304] W slices_S1024x2848_S1024x512_0_2304) bitsLt_bf16_f32

/-- The weights' last columns, with zero columns behind. -/
def abW (W : FVec Ideal S1024x2848 .f32) : FVec Ideal S1024x128 .bf16 :=
  truncf .bf16 (pad S1024x128 ![0, 0] ![0, 96] ![0, 0] (extractStridedSlice S1024x32 ![0, 2816] W slices_S1024x2848_S1024x32_0_2816)
    (sitofp (F := Ideal) .f32 (constantI S_ 32 0#32)) pads_S1024x32_S1024x128_000_0960 h_S_ : FVec Ideal S1024x128 .f32) bitsLt_bf16_f32

/-- The decay factors, with zeros behind. -/
def decay (A : FVec Ideal S2x8 .f32) : FVec Ideal S1x128 .f32 :=
  pad S1x128 ![0, 0] ![0, 112] ![0, 0] (shapeCast S1x16 (Host.negf (Host.exp A)) shapeCasts_S2x8_S1x16)
    (sitofp (F := Ideal) .f32 (constantI S_ 32 0#32)) pads_S1x16_S1x128_000_01120 h_S_

/-- The step biases, with zeros behind. -/
def steps (A : FVec Ideal S2x8 .f32) : FVec Ideal S1x128 .f32 :=
  pad S1x128 ![0, 0] ![0, 112] ![0, 0] (shapeCast S1x16 A shapeCasts_S2x8_S1x16)
    (sitofp (F := Ideal) .f32 (constantI S_ 32 0#32)) pads_S1x16_S1x128_000_01120 h_S_

/-- The table of ones between columns of the same head. -/
def onesTerm : FVec Ideal S256x256 .bf16 :=
  truncf .bf16 (select (cmpi .eq (Host.divsi (iotaInDim S256x256 32 0) (broadcastInDim S256x256 ![] bcast_S_S256x256 (constantI S_ 32 64#32)))
      (Host.divsi (iotaInDim S256x256 32 1) (broadcastInDim S256x256 ![] bcast_S_S256x256 (constantI S_ 32 64#32))))
    (broadcastInDim S256x256 ![] bcast_S_S256x256 (constant (F := Ideal) S_ .f32 0x3F800000#32))
    (broadcastInDim S256x256 ![] bcast_S_S256x256 (constant (F := Ideal) S_ .f32 0x00000000#32)) : FVec Ideal S256x256 .f32) bitsLt_bf16_f32

variable (m : (ℓ : Loc nD τ sig) → Buf (Elt Ideal) ℓ)

/-- The operations before the call. -/
abbrev lines : List (HloOp τ sig (Elt Ideal)) :=
  [hostOps0, hostOps0_1, hostOps0_2, hostOps0_3, hostOps0_4, hostOps0_5, hostOps0_6, hostOps0_7, hostOps0_8].flatten

/-- What they leave in the arrays the call reads. -/
theorem host_eq (c : Dev nD) : V m c main_v10 = attW (m ((c : Thread nD τ).loc main_arg1))
    ∧ V m c main_v12 = midW (m ((c : Thread nD τ).loc main_arg1)) ∧ V m c main_v14 = zW (m ((c : Thread nD τ).loc main_arg1))
    ∧ V m c main_v2 = abW (m ((c : Thread nD τ).loc main_arg1)) ∧ V m c main_v6 = decay (m ((c : Thread nD τ).loc main_arg3))
    ∧ V m c main_v8 = steps (m ((c : Thread nD τ).loc main_arg4)) ∧ V m c main_v23 = onesTerm := by
  have e : ∀ b, V m c b = StableHlo.after lines (fun b => m (c, b)) (Proc.tc.devRef b) := fun b => rfl
  simp only [e, lines, List.flatten_cons, List.flatten_nil, List.append_nil, List.cons_append, List.nil_append, hostOps0, hostOps0_1,
    hostOps0_2, hostOps0_3, hostOps0_4, hostOps0_5, hostOps0_6, hostOps0_7, hostOps0_8,
    StableHlo.TRef.binary, StableHlo.TRef.ternary, StableHlo.TRef.unary, StableHlo.TRef.toBuf, StableHlo.TRef.ofBuf, cast_eq]
  refine ⟨?_, ?_, ?_, ?_, ?_, ?_, ?_⟩
  all_goals after_results_simp <;> rfl

/-- The windows' block indices: point `t` works on tile `t % 16` of batch `t / 16`; the blocks of eight rows before and after
    the tile are clamped at the ends of the sequence. -/
theorem idx : ∀ t : Fin cfg0.N, win0_0.index t = ![t.val / 16, 64 * (t.val % 16) - 1, 0] ∧ win0_1.index t = ![t.val / 16, t.val % 16, 0]
    ∧ win0_2.index t = ![t.val / 16, min (64 * (t.val % 16) + 64) 1023, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val / 16, t.val % 16, 0]
    ∧ win0_12.index t = ![t.val / 16, t.val % 16, 0] ∧ win0_13.index t = ![t.val / 16, t.val % 16, 0]
    ∧ win0_14.index t = ![t.val / 16, t.val % 16, 0] ∧ win0_15.index t = ![t.val / 16, t.val % 16, 0]
    ∧ win0_16.index t = ![t.val / 16, t.val % 16, 0] ∧ win0_17.index t = ![t.val / 16, t.val % 16, 0]
    ∧ win0_18.index t = ![t.val / 16, t.val % 16, 0] :=
  (by decide +kernel : ∀ t : Fin grid0.N, _)

/-- The second grid coordinate of a step counts the blocks of a sequence. -/
theorem coord : ∀ t : Fin cfg0.N, ((grid0.coords t) 1).val = t.val % 16 := (by decide +kernel : ∀ t : Fin grid0.N, _)

/-- The batch point `t` works on. -/
def bat (t : Fin cfg0.N) : Fin 8 := ⟨t.val / 16, by have := t.isLt; have : cfg0.N = 128 := rfl; omega⟩

/-- Row `r` of point `t`'s tile. -/
def row (t : Fin cfg0.N) (r : Fin 512) : Fin 8192 := ⟨512 * (t.val % 16) + r.val, by omega⟩

/-- Row `r` of the eight rows before the tile. -/
def rowLo (t : Fin cfg0.N) (r : Fin 8) : Fin 8192 := ⟨8 * (64 * (t.val % 16) - 1) + r.val, by omega⟩

/-- Row `r` of the eight rows after the tile. -/
def rowHi (t : Fin cfg0.N) (r : Fin 8) : Fin 8192 := ⟨8 * min (64 * (t.val % 16) + 64) 1023 + r.val, by omega⟩

/-! The arguments, by coordinates. -/

/-- The rows, by coordinates. -/
def X (c : Dev nD) (b : Fin 8) (s : Fin 8192) (k : Fin 1024) : EReal :=
  (show FVec Ideal S8x8192x1024 .f32 from m ((c : Thread nD τ).loc main_arg0)) (ix3 b s k)

/-- The projection's weights, by coordinates. -/
def W (c : Dev nD) (k : Fin 1024) (j : Fin 2848) : EReal :=
  (show FVec Ideal S1024x2848 .f32 from m ((c : Thread nD τ).loc main_arg1)) (ix2 k j)

/-- The taps, by coordinates. -/
def C (c : Dev nD) (d : Fin 3) (j : Fin 1536) : EReal :=
  (show FVec Ideal S3x1536 .f32 from m ((c : Thread nD τ).loc main_arg2)) (ix2 d j)

/-- The logarithms of the decay rates, by coordinates. -/
def A (c : Dev nD) (d : Fin 2) (h : Fin 8) : EReal :=
  (show FVec Ideal S2x8 .f32 from m ((c : Thread nD τ).loc main_arg3)) (ix2 d h)

/-- The biases of the decays, by coordinates. -/
def B (c : Dev nD) (d : Fin 2) (h : Fin 8) : EReal :=
  (show FVec Ideal S2x8 .f32 from m ((c : Thread nD τ).loc main_arg4)) (ix2 d h)

/-! The blocks point `t` reads. -/

/-- Block 0 holds the eight rows before the tile, clamped at the start of the sequence. -/
theorem blk0 (c : Dev nD) (t : Fin cfg0.N) (r : Fin 8) (k : Fin 1024) :
    (show FVec Ideal S1x8x1024 .f32 from iblk m c 0 t) (ix3 0 r k) = X m c (bat t) (rowLo t r) k := by
  blk_point [iblk, V, idx t]
  all_goals simp only [bat, rowLo]
  all_goals omega

/-- Block 1 holds the tile's 512 rows. -/
theorem blk1 (c : Dev nD) (t : Fin cfg0.N) (r : Fin 512) (k : Fin 1024) :
    (show FVec Ideal S1x512x1024 .f32 from iblk m c 1 t) (ix3 0 r k) = X m c (bat t) (row t r) k := by
  blk_point [iblk, V, idx t]
  all_goals simp only [bat, row]
  all_goals omega

/-- Block 2 holds the eight rows after the tile, clamped at the end of the sequence. -/
theorem blk2 (c : Dev nD) (t : Fin cfg0.N) (r : Fin 8) (k : Fin 1024) :
    (show FVec Ideal S1x8x1024 .f32 from iblk m c 2 t) (ix3 0 r k) = X m c (bat t) (rowHi t r) k := by
  blk_point [iblk, V, idx t]
  all_goals simp only [bat, rowHi]
  all_goals omega

/-- Block 3 holds the attention's weight columns, rounded. -/
theorem blk3 (c : Dev nD) (t : Fin cfg0.N) (k : Fin 1024) (j : Fin 768) :
    (show FVec Ideal S1024x768 .bf16 from iblk m c 3 t) (ix2 k j) = W m c k ⟨j.val, by omega⟩ := by
  have e : (show FVec Ideal S1024x768 .bf16 from iblk m c 3 t) (ix2 k j) = (show FVec Ideal S1024x768 .bf16 from V m c main_v10) (ix2 k j) := by
    blk_point [iblk, idx t]
  rw [e, (host_eq m c).1]
  pointwise [attW, W]

/-- Block 4 holds the recurrence's weight columns for q, k and v, rounded. -/
theorem blk4 (c : Dev nD) (t : Fin cfg0.N) (k : Fin 1024) (j : Fin 1536) :
    (show FVec Ideal S1024x1536 .bf16 from iblk m c 4 t) (ix2 k j) = W m c k ⟨768 + j.val, by omega⟩ := by
  have e : (show FVec Ideal S1024x1536 .bf16 from iblk m c 4 t) (ix2 k j) = (show FVec Ideal S1024x1536 .bf16 from V m c main_v12) (ix2 k j) := by
    blk_point [iblk, idx t]
  rw [e, (host_eq m c).2.1]
  pointwise [midW, W]

/-- Block 5 holds the gate argument's weight columns, rounded. -/
theorem blk5 (c : Dev nD) (t : Fin cfg0.N) (k : Fin 1024) (j : Fin 512) :
    (show FVec Ideal S1024x512 .bf16 from iblk m c 5 t) (ix2 k j) = W m c k ⟨2304 + j.val, by omega⟩ := by
  have e : (show FVec Ideal S1024x512 .bf16 from iblk m c 5 t) (ix2 k j) = (show FVec Ideal S1024x512 .bf16 from V m c main_v14) (ix2 k j) := by
    blk_point [iblk, idx t]
  rw [e, (host_eq m c).2.2.1]
  pointwise [zW, W]

/-- Block 6 holds, in its first 32 columns, the weights of decays and strengths, rounded. -/
theorem blk6 (c : Dev nD) (t : Fin cfg0.N) (k : Fin 1024) (j : Fin 128) (h : j.val < 32) :
    (show FVec Ideal S1024x128 .bf16 from iblk m c 6 t) (ix2 k j) = W m c k ⟨2816 + j.val, by omega⟩ := by
  have e : (show FVec Ideal S1024x128 .bf16 from iblk m c 6 t) (ix2 k j) = (show FVec Ideal S1024x128 .bf16 from V m c main_v2) (ix2 k j) := by
    blk_point [iblk, idx t]
  rw [e, (host_eq m c).2.2.2.1]
  pointwise [abW, W]
  exact dif_pos h

/-- Block 7 holds the taps. -/
theorem blk7 (c : Dev nD) (t : Fin cfg0.N) (d : Fin 3) (j : Fin 1536) :
    (show FVec Ideal S3x1536 .f32 from iblk m c 7 t) (ix2 d j) = C m c d j := by
  blk_point [iblk, V, idx t]

/-- Block 8 holds, in its first 16 lanes, the negated decay rates. -/
theorem blk8 (c : Dev nD) (t : Fin cfg0.N) (j : Fin 128) (h : j.val < 16) :
    (show FVec Ideal S1x128 .f32 from iblk m c 8 t) (ix2 0 j) = -Ideal.exp (A m c ⟨j.val / 8, by omega⟩ ⟨j.val % 8, by omega⟩) := by
  have e : (show FVec Ideal S1x128 .f32 from iblk m c 8 t) (ix2 0 j) = (show FVec Ideal S1x128 .f32 from V m c main_v6) (ix2 0 j) := by
    blk_point [iblk, idx t]
  rw [e, (host_eq m c).2.2.2.2.1]
  pointwise [decay, A]
  exact dif_pos h

/-- Block 9 holds, in its first 16 lanes, the biases of the decays. -/
theorem blk9 (c : Dev nD) (t : Fin cfg0.N) (j : Fin 128) (h : j.val < 16) :
    (show FVec Ideal S1x128 .f32 from iblk m c 9 t) (ix2 0 j) = B m c ⟨j.val / 8, by omega⟩ ⟨j.val % 8, by omega⟩ := by
  have e : (show FVec Ideal S1x128 .f32 from iblk m c 9 t) (ix2 0 j) = (show FVec Ideal S1x128 .f32 from V m c main_v8) (ix2 0 j) := by
    blk_point [iblk, idx t]
  rw [e, (host_eq m c).2.2.2.2.2.1]
  pointwise [steps, B]
  exact dif_pos h

/-- The kernel's comparison of two columns' heads. -/
theorem head_eq (k j : Fin 256) : IntOp.cmpi .eq (IntOp.divsi .host (BitVec.ofNat 32 k.val) 64#32) (IntOp.divsi .host (BitVec.ofNat 32 j.val) 64#32)
    = if k.val / 64 = j.val / 64 then 1#1 else 0#1 := by
  have e : ∀ k : Fin 256, IntOp.divsi .host (BitVec.ofNat 32 k.val) 64#32 = BitVec.ofNat 32 (k.val / 64) := by decide +kernel
  have e' : ∀ a b : Fin 4, IntOp.cmpi .eq (BitVec.ofNat 32 a.val) (BitVec.ofNat 32 b.val) = if a.val = b.val then 1#1 else 0#1 := by decide +kernel
  rw [e k, e j]
  exact e' ⟨k.val / 64, by omega⟩ ⟨j.val / 64, by omega⟩

/-- Block 10 holds one where two columns belong to one head and zero elsewhere. -/
theorem blk10 (c : Dev nD) (t : Fin cfg0.N) (k j : Fin 256) :
    (show FVec Ideal S256x256 .bf16 from iblk m c 10 t) (ix2 k j) = if k.val / 64 = j.val / 64 then 1 else 0 := by
  have e : (show FVec Ideal S256x256 .bf16 from iblk m c 10 t) (ix2 k j) = (show FVec Ideal S256x256 .bf16 from V m c main_v23) (ix2 k j) := by
    blk_point [iblk, idx t]
  rw [e, (host_eq m c).2.2.2.2.2.2]
  pointwise [onesTerm]
  rw [head_eq]
  split_ifs <;> rfl

end Cert.Kernel5Ideal.Proj

end
-- ==== Proof.ProjRows.lean ====
module

public import proofs.«01_k».proof.Proof.ProjArray

@[expose] public section

set_option maxRecDepth 16384

noncomputable section

/-! What the projection kernel's eight result arrays hold after the run, over its argument arrays. -/

namespace Cert.Kernel5Ideal.Proj

open Cert.Kernel5Ideal Cert.Kernel5Ideal.Gen Idealize.ShloMosaic Idealize.ShloMosaic.TcCoe Idealize.SL.Sem
open Cert.RowMath Cert.MixMath Cert.ProjMath

/-- The tile's rows, with the eight rows before and after, times a column: the rows `512 q - 1` to `512 q + 512` of the padded
    products, whatever stands in the other rows. -/
theorem halo (x : Fin 8192 → Fin 1024 → EReal) (w : Fin 1024 → EReal) (q : Fin 16) (v1 : FVec Ideal S512x1024 .f32) (s u : EReal)
    (v73 v77 : FVec Ideal S1x8x1024 .f32) (hs : s = if q.val = 0 then 0 else 1) (hu : u = if q.val = 15 then 0 else 1)
    (h1 : ∀ (r : Fin 512) k, v1 (ix2 r k) = x ⟨512 * q.val + r.val, by omega⟩ k)
    (h73 : ∀ (r : Fin 8) k, v73 (ix3 0 r k) = x ⟨8 * (64 * q.val - 1) + r.val, by omega⟩ k)
    (h77 : ∀ (r : Fin 8) k, v77 (ix3 0 r k) = x ⟨8 * min (64 * q.val + 64) 1023 + r.val, by omega⟩ k)
    (i : Fin 528) (n : Nat) (hn : n + 7 = 512 * q.val + i.val) (hi : 7 ≤ i.val) (hi' : i.val ≤ 520) :
    dot (fun k => extTerm v1 s u v73 v77 (ix2 i k)) w = padded x w n := by
  have hq := q.isLt
  rcases Nat.lt_or_ge 7 i.val with h | h
  · rcases Nat.lt_or_ge i.val 520 with h' | h'
    · have e : ∀ k, extTerm v1 s u v73 v77 (ix2 i k) = x ⟨n - 1, by omega⟩ k := fun k => by
        have e1 : (ix2 i k : S528x1024.Idx) = ix2 ⟨8 + (⟨i.val - 8, by omega⟩ : Fin 512).val, by simp only; omega⟩ k :=
          congrArg (fun d : Fin 528 => (ix2 d k : S528x1024.Idx)) (Fin.ext (by simp only; omega))
        refine (congrArg (extTerm v1 s u v73 v77) e1).trans ?_
        rw [ext_mid, h1]
        exact congrArg (fun d => x d k) (Fin.ext (by simp only; omega))
      rw [padded, dif_pos (by omega)]
      exact congrArg (fun y => dot y w) (funext e)
    · have e : ∀ k, extTerm v1 s u v73 v77 (ix2 i k) = v77 (ix3 0 0 k) * u := fun k => by
        rw [show i = ⟨520 + (0 : Fin 8).val, by decide⟩ from Fin.ext (by simp only [Fin.val_zero]; omega)]
        exact ext_hi v1 s u v73 v77 0 k
      refine (congrArg (fun y => dot y w) (funext e)).trans ?_
      simp only [h77, hu]
      split_ifs with h0
      · rw [padded, dif_neg (by omega)]
        simp [dot]
      · rw [padded, dif_pos (by omega)]
        simp only [mul_one]
        exact congrArg (fun d => dot (x d) w) (Fin.ext (by simp only [Fin.val_zero]; omega))
  · have e : ∀ k, extTerm v1 s u v73 v77 (ix2 i k) = v73 (ix3 0 7 k) * s := fun k => by
      rw [show i = ⟨(7 : Fin 8).val, by decide⟩ from Fin.ext (by simp only [show ((7 : Fin 8) : Nat) = 7 from rfl]; omega)]
      exact ext_lo v1 s u v73 v77 7 k
    refine (congrArg (fun y => dot y w) (funext e)).trans ?_
    simp only [h73, hs]
    split_ifs with h0
    · rw [padded, dif_neg (by omega)]
      simp [dot]
    · rw [padded, dif_pos (by omega)]
      simp only [mul_one]
      exact congrArg (fun d => dot (x d) w) (Fin.ext (by simp only [show ((7 : Fin 8) : Nat) = 7 from rfl]; omega))

/-- The convolved rows of a tile, from the blocks it reads. -/
theorem convolved_of (x : Fin 8192 → Fin 1024 → EReal) (w : Fin 1024 → Fin 2848 → EReal) (d : Fin 3 → Fin 1536 → EReal)
    (q : Fin 16) (v1 : FVec Ideal S1x512x1024 .f32) (v73 v77 : FVec Ideal S1x8x1024 .f32)
    (Wb : FVec Ideal S1024x1536 .bf16) (Cb : FVec Ideal S3x1536 .f32)
    (h1 : ∀ (r : Fin 512) k, v1 (ix3 0 r k) = x ⟨512 * q.val + r.val, by omega⟩ k)
    (h73 : ∀ (r : Fin 8) k, v73 (ix3 0 r k) = x ⟨8 * (64 * q.val - 1) + r.val, by omega⟩ k)
    (h77 : ∀ (r : Fin 8) k, v77 (ix3 0 r k) = x ⟨8 * min (64 * q.val + 64) 1023 + r.val, by omega⟩ k)
    (hW : ∀ k (j : Fin 1536), Wb (ix2 k j) = w k ⟨768 + j.val, by omega⟩) (hC : ∀ k j, Cb (ix2 k j) = d k j)
    (r : Fin 512) (j : Fin 1536) :
    k0_pay12 (F := Ideal) (k0_pay3 v1) (k0_pay11 (BitVec.ofNat 32 q.val)) (Scalar.cmpi .slt (BitVec.ofNat 32 q.val) 15#32)
      v73 v77 Wb Cb (ix2 r j) = convolved x w d ⟨512 * q.val + r.val, by omega⟩ j := by
  have hh := halo x (fun k => w k ⟨768 + j.val, by omega⟩) q (k0_pay3 v1) _ _ v73 v77 (first_eq q) (last_eq q)
    (fun r k => (pay3_apply v1 r k).trans (h1 r k)) h73 h77
  rw [pay12_eq, conv_apply]
  simp only [prod_apply, hW, hC]
  rw [hh _ (512 * q.val + r.val) (by simp only; omega) (by simp only; omega) (by simp only; omega),
    hh _ (512 * q.val + r.val + 1) (by simp only; omega) (by simp only; omega) (by simp only; omega),
    hh _ (512 * q.val + r.val + 2) (by simp only; omega) (by simp only; omega) (by simp only; omega)]
  rfl

section Blocks

variable (i : grid0.Coords) (x0 : FVec Ideal S1x8x1024 .f32) (x1 : FVec Ideal S1x512x1024 .f32) (x2 : FVec Ideal S1x8x1024 .f32)
  (x3 : FVec Ideal S1024x768 .bf16) (x4 : FVec Ideal S1024x1536 .bf16) (x5 : FVec Ideal S1024x512 .bf16) (x6 : FVec Ideal S1024x128 .bf16)
  (x7 : FVec Ideal S3x1536 .f32) (x8 x9 : FVec Ideal S1x128 .f32) (x10 : FVec Ideal S256x256 .bf16)

/-! The results that need the rows around the tile, over the blocks the point reads. -/

/-- The body's tile of rows, named once. -/
theorem tile_eq : k0_pay20 (F := Ideal) i x0 x1 x2 x3 x4 x5 x6 x7 x8 x9 x10 = k0_pay3 x1 := by
  funext z
  unfold k0_pay20
  frame_out

/-- The body's keys, named once. -/
theorem keys_eq : k0_pay21 (F := Ideal) i x0 x1 x2 x3 x4 x5 x6 x7 x8 x9 x10 = k0_pay14 (k0_pay3 x1) (k0_pay11 (BitVec.ofNat 32 (i 1).val))
    (Scalar.cmpi .slt (BitVec.ofNat 32 (i 1).val) 15#32) x0 x2 x4 x7 := by
  funext z
  unfold k0_pay21
  rw [tile_eq]
  frame_out

/-- The block of the fourth result, over the blocks read. -/
theorem block14 : out0_14 (F := Ideal) i x0 x1 x2 x3 x4 x5 x6 x7 x8 x9 x10
    = queryTerm (k0_pay13 (k0_pay3 x1) (k0_pay11 (BitVec.ofNat 32 (i 1).val))
      (Scalar.cmpi .slt (BitVec.ofNat 32 (i 1).val) 15#32) x0 x2 x4 x7) x10 := by
  funext y
  frame_out
  rw [tile_eq]
  exact congrFun (pay18_eq _ _ _ _ _ _ _ _) y

/-- The block of the fifth result, over the blocks read. -/
theorem block15 : out0_15 (F := Ideal) i x0 x1 x2 x3 x4 x5 x6 x7 x8 x9 x10
    = k0_pay1 (F := Ideal) (k0_pay14 (k0_pay3 x1) (k0_pay11 (BitVec.ofNat 32 (i 1).val))
        (Scalar.cmpi .slt (BitVec.ofNat 32 (i 1).val) 15#32) x0 x2 x4 x7)
      (k0_pay19 (k0_pay14 (k0_pay3 x1) (k0_pay11 (BitVec.ofNat 32 (i 1).val))
        (Scalar.cmpi .slt (BitVec.ofNat 32 (i 1).val) 15#32) x0 x2 x4 x7) x10) := by
  funext y
  frame_out
  rw [keys_eq]

/-- The block of the sixth result, over the blocks read. -/
theorem block16 : out0_16 (F := Ideal) i x0 x1 x2 x3 x4 x5 x6 x7 x8 x9 x10
    = k0_pay2 (F := Ideal) (k0_pay12 (k0_pay3 x1) (k0_pay11 (BitVec.ofNat 32 (i 1).val))
        (Scalar.cmpi .slt (BitVec.ofNat 32 (i 1).val) 15#32) x0 x2 x4 x7) := by
  funext y
  frame_out
  rw [tile_eq]

end Blocks

variable (m : (ℓ : Loc nD τ sig) → Buf (Elt Ideal) ℓ)

/-- The convolved rows point `t` computes. -/
theorem mixed_eq (c : Dev nD) (t : Fin cfg0.N) (r : Fin 512) (j : Fin 1536) :
    k0_pay12 (F := Ideal) (k0_pay3 (show FVec Ideal S1x512x1024 .f32 from iblk m c 1 t)) (k0_pay11 (BitVec.ofNat 32 ((grid0.coords t) 1).val))
      (Scalar.cmpi .slt (BitVec.ofNat 32 ((grid0.coords t) 1).val) 15#32) (show FVec Ideal S1x8x1024 .f32 from iblk m c 0 t)
      (show FVec Ideal S1x8x1024 .f32 from iblk m c 2 t) (show FVec Ideal S1024x1536 .bf16 from iblk m c 4 t)
      (show FVec Ideal S3x1536 .f32 from iblk m c 7 t) (ix2 r j)
      = convolved (X m c (bat t)) (W m c) (C m c) (row t r) j := by
  rw [coord t]
  exact convolved_of (X m c (bat t)) (W m c) (C m c) ⟨t.val % 16, by omega⟩ _ _ _ _ _ (blk1 m c t) (blk0 m c t) (blk2 m c t)
    (blk4 m c t) (blk7 m c t) r j

/-- The table of the heads' columns. -/
def heads (k j : Fin 256) : EReal := if k.val / 64 = j.val / 64 then 1 else 0

/-! The eight results, entry by entry. -/

/-- The attention's queries. -/
def attQuery (c : Dev nD) (b : Fin 8) (s : Fin 8192) (j : Fin 512) : EReal :=
  dot (X m c b s) (fun k => W m c k ⟨j.val, by omega⟩) * Ideal.ofBits .f32 0x3E000000#32

/-- The attention's keys. -/
def attKey (c : Dev nD) (b : Fin 8) (s : Fin 8192) (j : Fin 128) : EReal := dot (X m c b s) (fun k => W m c k ⟨512 + j.val, by omega⟩)

/-- The attention's values. -/
def attValue (c : Dev nD) (b : Fin 8) (s : Fin 8192) (j : Fin 128) : EReal := dot (X m c b s) (fun k => W m c k ⟨640 + j.val, by omega⟩)

/-- The recurrence's queries, each head divided by its length, the lengths through the table. -/
def unitQuery (c : Dev nD) (b : Fin 8) (s : Fin 8192) (j : Fin 512) : EReal :=
  unitTable (fun k => convolved (X m c b) (W m c) (C m c) s ⟨k.val, by omega⟩) heads j * Ideal.ofBits .f32 0x3E000000#32

/-- The recurrence's keys, likewise. -/
def unitKey (c : Dev nD) (b : Fin 8) (s : Fin 8192) (j : Fin 512) : EReal :=
  unitTable (fun k => convolved (X m c b) (W m c) (C m c) s ⟨512 + k.val, by omega⟩) heads j

/-- The recurrence's values. -/
def value (c : Dev nD) (b : Fin 8) (s : Fin 8192) (j : Fin 512) : EReal :=
  convolved (X m c b) (W m c) (C m c) s ⟨1024 + j.val, by omega⟩

/-- The recurrence's gate argument. -/
def gateArg (c : Dev nD) (b : Fin 8) (s : Fin 8192) (j : Fin 512) : EReal := dot (X m c b s) (fun k => W m c k ⟨2304 + j.val, by omega⟩)

/-- The gate rows. -/
def gates (c : Dev nD) (b : Fin 8) (s : Fin 8192) (j : Fin 128) : EReal := gateRow (X m c b s) (W m c) (A m c) (B m c) j

/-! What point `t` leaves in each result's block. -/

/-- What a step writes for the attention's queries. -/
theorem out11 (c : Dev nD) (t : Fin cfg0.N) (r : Fin 512) (j : Fin 512) :
    (show FVec Ideal S1x512x512 .bf16 from (dats m 0 c).after 11 t) (ix3 0 r j)
      = attQuery m c (bat t) (row t r) j := by
  rw [after0_11]
  frame_out
  refine (qa_apply _ _ r j).trans ?_
  simp only [blk1, blk3]
  rfl

/-- What a step writes for the attention's keys. -/
theorem out12 (c : Dev nD) (t : Fin cfg0.N) (r : Fin 512) (j : Fin 128) :
    (show FVec Ideal S1x512x128 .bf16 from (dats m 0 c).after 12 t) (ix3 0 r j)
      = attKey m c (bat t) (row t r) j := by
  rw [after0_12]
  frame_out
  refine (ka_apply _ _ r j).trans ?_
  simp only [blk1, blk3]
  rfl

/-- What a step writes for the attention's values. -/
theorem out13 (c : Dev nD) (t : Fin cfg0.N) (r : Fin 512) (j : Fin 128) :
    (show FVec Ideal S1x512x128 .bf16 from (dats m 0 c).after 13 t) (ix3 0 r j)
      = attValue m c (bat t) (row t r) j := by
  rw [after0_13]
  frame_out
  refine (va_apply _ _ r j).trans ?_
  simp only [blk1, blk3]
  rfl

/-- What a step writes for the recurrence's normalised queries. -/
theorem out14 (c : Dev nD) (t : Fin cfg0.N) (r : Fin 512) (j : Fin 512) :
    (show FVec Ideal S1x512x512 .bf16 from (dats m 0 c).after 14 t) (ix3 0 r j)
      = unitQuery m c (bat t) (row t r) j := by
  refine (congrFun ((after0_14 m c t).trans (block14 _ _ _ _ _ _ _ _ _ _ _ _)) _).trans ((query_apply _ _ r j).trans ?_)
  simp only [pay13_apply, blk10]
  refine congrArg (fun q => unitTable q _ j * _) (funext fun k => ?_)
  exact mixed_eq m c t r ⟨k.val, by omega⟩

/-- What a step writes for the recurrence's normalised keys. -/
theorem out15 (c : Dev nD) (t : Fin cfg0.N) (r : Fin 512) (j : Fin 512) :
    (show FVec Ideal S1x512x512 .bf16 from (dats m 0 c).after 15 t) (ix3 0 r j)
      = unitKey m c (bat t) (row t r) j := by
  refine (congrFun ((after0_15 m c t).trans (block15 _ _ _ _ _ _ _ _ _ _ _ _)) _).trans ((unit_apply _ _ r j).trans ?_)
  simp only [blk10]
  refine congrArg (fun q => unitTable q _ j) (funext fun k => ?_)
  exact (pay14_apply _ _ _ _ _ _ _ r k).trans (mixed_eq m c t r ⟨512 + k.val, by omega⟩)

/-- What a step writes for the recurrence's values. -/
theorem out16 (c : Dev nD) (t : Fin cfg0.N) (r : Fin 512) (j : Fin 512) :
    (show FVec Ideal S1x512x512 .bf16 from (dats m 0 c).after 16 t) (ix3 0 r j)
      = value m c (bat t) (row t r) j := by
  exact (congrFun ((after0_16 m c t).trans (block16 _ _ _ _ _ _ _ _ _ _ _ _)) _).trans <| (pay2_apply _ r j).trans (mixed_eq m c t r ⟨1024 + j.val, by omega⟩)

/-- What a step writes for the gate's argument. -/
theorem out17 (c : Dev nD) (t : Fin cfg0.N) (r : Fin 512) (j : Fin 512) :
    (show FVec Ideal S1x512x512 .bf16 from (dats m 0 c).after 17 t) (ix3 0 r j)
      = gateArg m c (bat t) (row t r) j := by
  rw [after0_17]
  frame_out
  refine (z_apply _ _ r j).trans ?_
  simp only [blk1, blk5]
  rfl

/-- What a step writes for the decays and strengths. -/
theorem out18 (c : Dev nD) (t : Fin cfg0.N) (r : Fin 512) (j : Fin 128) :
    (show FVec Ideal S1x512x128 .f32 from (dats m 0 c).after 18 t) (ix3 0 r j)
      = gates m c (bat t) (row t r) j := by
  rw [after0_18]
  frame_out
  refine (gb_apply _ _ _ _ r j).trans ?_
  rw [gates, gateRow]
  by_cases h : j.val < 16
  · rw [if_pos h, dif_pos h]
    simp only [blk1, blk6 m c t _ j (by omega), blk8 m c t j h, blk9 m c t j h]
  · rw [if_neg h, dif_neg h]
    by_cases h' : j.val < 32
    · rw [if_pos h', dif_pos h']
      simp only [blk1, blk6 m c t _ j h']
    · rw [if_neg h', dif_neg h']

/-- The result array that point `t` fills with `f (batch) (row)` on its rows. -/
def arr512 (f : Fin 8 → Fin 8192 → Fin 512 → EReal) : FVec Ideal S8x8192x512 .bf16 := fun i => f (i 0) (i 1) (i 2)

/-- The same for arrays of 128 columns. -/
def arr128 (e : FTy) (f : Fin 8 → Fin 8192 → Fin 128 → EReal) : FVec Ideal S8x8192x128 e := fun i => f (i 0) (i 1) (i 2)

/-- An entry of an array of 512 columns. -/
theorem arr512_at (f : Fin 8 → Fin 8192 → Fin 512 → EReal) (b : Fin 8) (s : Fin 8192) (j : Fin 512) :
    arr512 f (ix3 b s j) = f b s j := rfl

/-- An entry of an array of 128 columns. -/
theorem arr128_at {e : FTy} (f : Fin 8 → Fin 8192 → Fin 128 → EReal) (b : Fin 8) (s : Fin 8192) (j : Fin 128) :
    arr128 e f (ix3 b s j) = f b s j := rfl

/-! The run's eight results. -/

/-- After all steps the array of the attention's queries is complete. -/
theorem final11 (c : Dev nD) : (dats m 0 c).arrAt 11 cfg0.N = arr512 (attQuery m c) := by
  refine (dats m 0 c).arrAt_eq_of_covers 11 _ (by decide +kernel) fun t _ y => ?_
  blk_simp
  refine (congrArg (show FVec Ideal S1x512x512 .bf16 from (dats m 0 c).after 11 t) (?_ : _ = (ix3 (0 : Fin 1) (y 1) (y 2) : S1x512x512.Idx))).trans
    ((out11 m c t (y 1) (y 2)).trans ((arr512_at _ _ _ _).symm.trans (congrArg (arr512 (attQuery m c)) (?_ : (ix3 (bat t) (row t (y 1)) (y 2) : S8x8192x512.Idx) = _))))
  · blk_ext
  · blk_ext [idx t, bat, row]

/-- After all steps the array of the attention's keys is complete. -/
theorem final12 (c : Dev nD) : (dats m 0 c).arrAt 12 cfg0.N = arr128 .bf16 (attKey m c) := by
  refine (dats m 0 c).arrAt_eq_of_covers 12 _ (by decide +kernel) fun t _ y => ?_
  blk_simp
  refine (congrArg (show FVec Ideal S1x512x128 .bf16 from (dats m 0 c).after 12 t) (?_ : _ = (ix3 (0 : Fin 1) (y 1) (y 2) : S1x512x128.Idx))).trans
    ((out12 m c t (y 1) (y 2)).trans ((arr128_at _ _ _ _).symm.trans (congrArg (arr128 .bf16 (attKey m c)) (?_ : (ix3 (bat t) (row t (y 1)) (y 2) : S8x8192x128.Idx) = _))))
  · blk_ext
  · blk_ext [idx t, bat, row]

/-- After all steps the array of the attention's values is complete. -/
theorem final13 (c : Dev nD) : (dats m 0 c).arrAt 13 cfg0.N = arr128 .bf16 (attValue m c) := by
  refine (dats m 0 c).arrAt_eq_of_covers 13 _ (by decide +kernel) fun t _ y => ?_
  blk_simp
  refine (congrArg (show FVec Ideal S1x512x128 .bf16 from (dats m 0 c).after 13 t) (?_ : _ = (ix3 (0 : Fin 1) (y 1) (y 2) : S1x512x128.Idx))).trans
    ((out13 m c t (y 1) (y 2)).trans ((arr128_at _ _ _ _).symm.trans (congrArg (arr128 .bf16 (attValue m c)) (?_ : (ix3 (bat t) (row t (y 1)) (y 2) : S8x8192x128.Idx) = _))))
  · blk_ext
  · blk_ext [idx t, bat, row]

/-- After all steps the array of the recurrence's normalised queries is complete. -/
theorem final14 (c : Dev nD) : (dats m 0 c).arrAt 14 cfg0.N = arr512 (unitQuery m c) := by
  refine (dats m 0 c).arrAt_eq_of_covers 14 _ (by decide +kernel) fun t _ y => ?_
  blk_simp
  refine (congrArg (show FVec Ideal S1x512x512 .bf16 from (dats m 0 c).after 14 t) (?_ : _ = (ix3 (0 : Fin 1) (y 1) (y 2) : S1x512x512.Idx))).trans
    ((out14 m c t (y 1) (y 2)).trans ((arr512_at _ _ _ _).symm.trans (congrArg (arr512 (unitQuery m c)) (?_ : (ix3 (bat t) (row t (y 1)) (y 2) : S8x8192x512.Idx) = _))))
  · blk_ext
  · blk_ext [idx t, bat, row]

/-- After all steps the array of the recurrence's normalised keys is complete. -/
theorem final15 (c : Dev nD) : (dats m 0 c).arrAt 15 cfg0.N = arr512 (unitKey m c) := by
  refine (dats m 0 c).arrAt_eq_of_covers 15 _ (by decide +kernel) fun t _ y => ?_
  blk_simp
  refine (congrArg (show FVec Ideal S1x512x512 .bf16 from (dats m 0 c).after 15 t) (?_ : _ = (ix3 (0 : Fin 1) (y 1) (y 2) : S1x512x512.Idx))).trans
    ((out15 m c t (y 1) (y 2)).trans ((arr512_at _ _ _ _).symm.trans (congrArg (arr512 (unitKey m c)) (?_ : (ix3 (bat t) (row t (y 1)) (y 2) : S8x8192x512.Idx) = _))))
  · blk_ext
  · blk_ext [idx t, bat, row]

/-- After all steps the array of the recurrence's values is complete. -/
theorem final16 (c : Dev nD) : (dats m 0 c).arrAt 16 cfg0.N = arr512 (value m c) := by
  refine (dats m 0 c).arrAt_eq_of_covers 16 _ (by decide +kernel) fun t _ y => ?_
  blk_simp
  refine (congrArg (show FVec Ideal S1x512x512 .bf16 from (dats m 0 c).after 16 t) (?_ : _ = (ix3 (0 : Fin 1) (y 1) (y 2) : S1x512x512.Idx))).trans
    ((out16 m c t (y 1) (y 2)).trans ((arr512_at _ _ _ _).symm.trans (congrArg (arr512 (value m c)) (?_ : (ix3 (bat t) (row t (y 1)) (y 2) : S8x8192x512.Idx) = _))))
  · blk_ext
  · blk_ext [idx t, bat, row]

/-- After all steps the array of the gate's argument is complete. -/
theorem final17 (c : Dev nD) : (dats m 0 c).arrAt 17 cfg0.N = arr512 (gateArg m c) := by
  refine (dats m 0 c).arrAt_eq_of_covers 17 _ (by decide +kernel) fun t _ y => ?_
  blk_simp
  refine (congrArg (show FVec Ideal S1x512x512 .bf16 from (dats m 0 c).after 17 t) (?_ : _ = (ix3 (0 : Fin 1) (y 1) (y 2) : S1x512x512.Idx))).trans
    ((out17 m c t (y 1) (y 2)).trans ((arr512_at _ _ _ _).symm.trans (congrArg (arr512 (gateArg m c)) (?_ : (ix3 (bat t) (row t (y 1)) (y 2) : S8x8192x512.Idx) = _))))
  · blk_ext
  · blk_ext [idx t, bat, row]

/-- After all steps the array of the decays and strengths is complete. -/
theorem final18 (c : Dev nD) : (dats m 0 c).arrAt 18 cfg0.N = arr128 .f32 (gates m c) := by
  refine (dats m 0 c).arrAt_eq_of_covers 18 _ (by decide +kernel) fun t _ y => ?_
  blk_simp
  refine (congrArg (show FVec Ideal S1x512x128 .f32 from (dats m 0 c).after 18 t) (?_ : _ = (ix3 (0 : Fin 1) (y 1) (y 2) : S1x512x128.Idx))).trans
    ((out18 m c t (y 1) (y 2)).trans ((arr128_at _ _ _ _).symm.trans (congrArg (arr128 .f32 (gates m c)) (?_ : (ix3 (bat t) (row t (y 1)) (y 2) : S8x8192x128.Idx) = _))))
  · blk_ext
  · blk_ext [idx t, bat, row]

end Cert.Kernel5Ideal.Proj

end
-- ==== Proof.ProjFinite.lean ====
module

public import proofs.«01_k».proof.Defs
public import proofs.«01_k».proof.Proof.ProjRows
public import proofs.«01_k».proof.Proof.MixFinite

@[expose] public section

set_option maxRecDepth 16384

noncomputable section

/-! Over finite rows, weights and taps, the sums through the table are the sums over the heads. -/

namespace Cert.Kernel5Ideal.Proj

open Cert.Kernel5Ideal Idealize.ShloMosaic Idealize.ShloMosaic.TcCoe Idealize.SL.Sem
open Cert.RowMath Cert.MixMath Cert.ProjMath Cert.KernelIdeal.Attn Cert.Kernel3Ideal.Mix

/-- The table made from the columns' numbers is the constant one. -/
theorem heads_eq : heads = table := by
  funext k j
  exact (table_apply k j).symm

/-- Zero is real. -/
theorem zero_real : IsReal 0 := ⟨EReal.zero_ne_top, EReal.zero_ne_bot⟩

/-- A product of a real row with a real column is real. -/
theorem dot_real {x w : Fin 1024 → EReal} (hx : ∀ k, IsReal (x k)) (hw : ∀ k, IsReal (w k)) : IsReal (dot x w) :=
  Finset.sum_induction _ IsReal (fun _ _ => add_real) zero_real fun k _ => mul_real (hx k) (hw k)

/-- The logistic function of a real number is real. -/
theorem sigmoid_real {x : EReal} (hx : IsReal x) : IsReal (sigmoid x) := by
  rw [← EReal.coe_toReal hx.1 hx.2]
  generalize x.toReal = r
  have e : Ideal.exp (0 - (r : EReal)) = ((Real.exp (-r) : ℝ) : EReal) := by
    rw [zero_sub, ← EReal.coe_neg]
    rfl
  have n : ((1 + Real.exp (-r) : ℝ) : EReal) ≠ 0 := by
    exact_mod_cast (by positivity : (1 + Real.exp (-r) : ℝ) ≠ 0)
  rw [sigmoid, e, ← EReal.coe_one, ← EReal.coe_add, Ideal.div, if_neg n, ← EReal.coe_inv, ← EReal.coe_mul]
  exact ⟨EReal.coe_ne_top _, EReal.coe_ne_bot _⟩

/-- The padded products are real. -/
theorem padded_real {x : Fin 8192 → Fin 1024 → EReal} {w : Fin 1024 → EReal} (hx : ∀ s k, IsReal (x s k)) (hw : ∀ k, IsReal (w k))
    (n : ℕ) : IsReal (ProjMath.padded x w n) := by
  rw [ProjMath.padded]
  split_ifs
  · exact dot_real (hx _) hw
  · exact zero_real

/-- The convolved rows are real. -/
theorem convolved_real {x : Fin 8192 → Fin 1024 → EReal} {W : Fin 1024 → Fin 2848 → EReal} {C : Fin 3 → Fin 1536 → EReal}
    (hx : ∀ s k, IsReal (x s k)) (hW : ∀ k j, IsReal (W k j)) (hC : ∀ d j, IsReal (C d j)) (s : Fin 8192) (j : Fin 1536) :
    IsReal (convolved x W C s j) := by
  have hp := fun n => padded_real hx (fun k => hW k ⟨768 + j.val, by omega⟩) n
  have hy := add_real (add_real (mul_real (hp s.val) (hC 0 j)) (mul_real (hp (s.val + 1)) (hC 1 j))) (mul_real (hp (s.val + 2)) (hC 2 j))
  exact mul_real hy (sigmoid_real hy)

/-- Over a real row the heads' lengths through the table are the heads' lengths. -/
theorem unitTable_eq (q : Fin 512 → EReal) (h : ∀ k, IsReal (q k)) : unitTable q heads = unitRow q := by
  funext c
  rw [heads_eq, unitTable, unitRow, tableSum_eq _ (fun k => mul_real (h _) (h _))]
  have e : ∀ d : Fin 64, (⟨256 * (c.val / 256) + (64 * (c.val % 256 / 64) + d.val), by omega⟩ : Fin 512)
      = ⟨64 * (c.val / 64) + d.val, by omega⟩ := fun d => Fin.ext (by simp only; omega)
  simp only [e]

/-- The side conditions of the precondition's operations. -/
theorem preFacts : Cert.Pre_finite5.Facts where
  bcast_S_S8x8192x1024 := by decide
  bcast_S_S1024x2848 := by decide
  bcast_S_S3x1536 := by decide

/-- Under the precondition the convolved rows are real. -/
theorem rows_real (m : (ℓ : Loc nD τ sig) → Buf (Elt Ideal) ℓ) (h : Cert.Pre_Kernel5Ideal_finite5 (hPre_finite5 := preFacts) m)
    (c : Dev nD) (b : Fin 8) (s : Fin 8192) (j : Fin 1536) : IsReal (convolved (X m c b) (W m c) (C m c) s j) :=
  convolved_real (fun s k => real_of_abs infinity.1 (congrFun (h c).1 (ix3 b s k)))
    (fun k j => real_of_abs infinity.1 (congrFun (h c).2.1 (ix2 k j)))
    (fun d j => real_of_abs infinity.1 (congrFun (h c).2.2 (ix2 d j))) s j

end Cert.Kernel5Ideal.Proj

end
-- ==== Proof.ProjMatch.lean ====
module

public import proofs.«01_k».proof.Defs
public import proofs.«01_k».proof.Proof.ProjReference
public import proofs.«01_k».proof.Proof.ProjFinite
public import Idealize.ShloMosaic.Lib.Claim

@[expose] public section

set_option maxRecDepth 16384

noncomputable section

/-! The projection reference's eight results, of the kernel's arguments, are the kernel's. -/

namespace Cert.Proof

open Idealize.ShloMosaic Idealize.ShloMosaic.TcCoe Idealize.SL.Sem
open Cert.Kernel5Ideal Cert.Kernel5Ideal.Proj

variable (m : (ℓ : Loc nD τ sig) → Buf (Elt Ideal) ℓ) (c : Dev nD)

/-- The arguments, as arrays. -/
def argX : FVec Ideal S8x8192x1024 .f32 := m ((c : Thread nD τ).loc main_arg0)
/-- The weights, as an array. -/
def argW : FVec Ideal S1024x2848 .f32 := m ((c : Thread nD τ).loc main_arg1)
/-- The taps, as an array. -/
def argC : FVec Ideal S3x1536 .f32 := m ((c : Thread nD τ).loc main_arg2)
/-- The logarithms of the decay rates, as an array. -/
def argA : FVec Ideal S2x8 .f32 := m ((c : Thread nD τ).loc main_arg3)
/-- The biases of the decays, as an array. -/
def argB : FVec Ideal S2x8 .f32 := m ((c : Thread nD τ).loc main_arg4)

/-- The reference's products, of the kernel's arguments. -/
def prod : FVec Ideal Cert.Reference5Ideal.S8x8192x2848 .f32 := Cert.Reference5Ideal.Proj.prodTerm (argX m c) (argW m c)

/-- The reference's convolved rows, of the kernel's arguments. -/
def conv5 : FVec Ideal Cert.Reference5Ideal.S8x8192x1536 .f32 :=
  Cert.Reference5Ideal.Proj.siluTerm (Cert.Reference5Ideal.Proj.tapsTerm (Cert.Reference5Ideal.Proj.padTerm (prod m c)) (argC m c))

/-- Two arrays with equal entries, given by coordinates, are equal. -/
theorem ext512 {u v : FVec Ideal S8x8192x512 .bf16} (h : ∀ b s j, u (ix3 b s j) = v (ix3 b s j)) : u = v := by
  funext y
  have e : y = ix3 (y 0 : Fin 8) (y 1 : Fin 8192) (y 2 : Fin 512) := by funext a; fin_cases a <;> rfl
  rw [e]
  exact h _ _ _

/-- The same for arrays of 128 columns. -/
theorem ext128 {e : FTy} {u v : FVec Ideal S8x8192x128 e} (h : ∀ b s j, u (ix3 b s j) = v (ix3 b s j)) : u = v := by
  funext y
  have e : y = ix3 (y 0 : Fin 8) (y 1 : Fin 8192) (y 2 : Fin 128) := by funext a; fin_cases a <;> rfl
  rw [e]
  exact h _ _ _

/-- The attention's queries agree. -/
theorem attQuery_match : Cert.Reference5Ideal.Proj.attQueryTerm (prod m c) = arr512 (attQuery m c) :=
  ext512 fun b s j => Cert.Reference5Ideal.Proj.attQuery_apply (argX m c) (argW m c) b s j

/-- The attention's keys agree. -/
theorem attKey_match : Cert.Reference5Ideal.Proj.attKeyTerm (prod m c) = arr128 .bf16 (attKey m c) :=
  ext128 fun b s j => Cert.Reference5Ideal.Proj.attKey_apply (argX m c) (argW m c) b s j

/-- The attention's values agree. -/
theorem attValue_match : Cert.Reference5Ideal.Proj.attValueTerm (prod m c) = arr128 .bf16 (attValue m c) :=
  ext128 fun b s j => Cert.Reference5Ideal.Proj.attValue_apply (argX m c) (argW m c) b s j

/-- The gate's arguments agree. -/
theorem gateArg_match : Cert.Reference5Ideal.Proj.gateArgTerm (prod m c) = arr512 (gateArg m c) :=
  ext512 fun b s j => Cert.Reference5Ideal.Proj.gateArg_apply (argX m c) (argW m c) b s j

/-- The decays and strengths agree. -/
theorem gates_match : Cert.Reference5Ideal.Proj.gatesTerm (Cert.Reference5Ideal.Proj.decayTerm (Cert.Reference5Ideal.Proj.softTerm
      (Cert.Reference5Ideal.Proj.argTerm (prod m c) (argB m c))) (argA m c)) (Cert.Reference5Ideal.Proj.strengthTerm (prod m c))
    = arr128 .f32 (gates m c) :=
  ext128 fun b s j => Cert.Reference5Ideal.Proj.gateRow_apply (argX m c) (argW m c) (argA m c) (argB m c) b s j

/-- The reference's convolved rows are the kernel's. -/
theorem conv5_apply (b : Fin 8) (s : Fin 8192) (j : Fin 1536) :
    conv5 m c (ix3 b s j) = Cert.ProjMath.convolved (X m c b) (W m c) (C m c) s j :=
  Cert.Reference5Ideal.Proj.convolved_apply (argX m c) (argW m c) (argC m c) b s j

/-- The recurrence's values agree. -/
theorem value_match : Cert.Reference5Ideal.Proj.valueTerm (conv5 m c) = arr512 (value m c) :=
  ext512 fun b s j => (Cert.Reference5Ideal.Proj.value_apply _ b s j).trans (conv5_apply m c b s _)

/-- The recurrence's normalised queries agree, over finite rows, weights and taps. -/
theorem query_match (h : Cert.Pre_Kernel5Ideal_finite5 (hPre_finite5 := preFacts) m) :
    Cert.Reference5Ideal.Proj.queryTerm (conv5 m c) = arr512 (unitQuery m c) :=
  ext512 fun b s j => by
    rw [Cert.Reference5Ideal.Proj.query_apply, arr512_at, unitQuery, unitTable_eq _ fun k => rows_real m h c b s _]
    simp only [conv5_apply]

/-- The recurrence's normalised keys agree, over finite rows, weights and taps. -/
theorem key_match (h : Cert.Pre_Kernel5Ideal_finite5 (hPre_finite5 := preFacts) m) :
    Cert.Reference5Ideal.Proj.keyTerm (conv5 m c) = arr512 (unitKey m c) :=
  ext512 fun b s j => by
    rw [Cert.Reference5Ideal.Proj.key_apply, arr512_at, unitKey, unitTable_eq _ fun k => rows_real m h c b s _]
    simp only [conv5_apply]

variable {m c} {m' : (ℓ : Loc Cert.Reference5Ideal.nD Cert.Reference5Ideal.τ Cert.Reference5Ideal.sig) → Buf (Elt Ideal) ℓ}

/-- From equal rows and weights the reference forms the same products. -/
theorem prodOf_match
    (h0 : m' ((c : Thread nD τ).loc Cert.Reference5Ideal.main_arg0) = argX m c)
    (h1 : m' ((c : Thread nD τ).loc Cert.Reference5Ideal.main_arg1) = argW m c) :
    Cert.Reference5Ideal.Proj.prodOf m' c = prod m c := by
  unfold Cert.Reference5Ideal.Proj.prodOf
  exact congrArg₂ Cert.Reference5Ideal.Proj.prodTerm h0 h1

/-- From equal rows, weights and taps the reference forms the same convolved rows. -/
theorem convolvedOf_match
    (h0 : m' ((c : Thread nD τ).loc Cert.Reference5Ideal.main_arg0) = argX m c)
    (h1 : m' ((c : Thread nD τ).loc Cert.Reference5Ideal.main_arg1) = argW m c)
    (h2 : m' ((c : Thread nD τ).loc Cert.Reference5Ideal.main_arg2) = argC m c) :
    Cert.Reference5Ideal.Proj.convolvedOf m' c = conv5 m c := by
  unfold Cert.Reference5Ideal.Proj.convolvedOf conv5
  rw [prodOf_match h0 h1]
  exact congrArg (fun t => Cert.Reference5Ideal.Proj.siluTerm (Cert.Reference5Ideal.Proj.tapsTerm
    (Cert.Reference5Ideal.Proj.padTerm (prod m c)) t)) h2

set_option maxHeartbeats 2000000 in
/-- Over finite rows, weights and taps, the projection kernel and its reference end with equal results. -/
theorem algebraic5 : Cert.algebraic_Kernel5Ideal_Reference5Ideal_pre_finite5 (hPre_finite5 := preFacts) := by
  pair_intro
  · run_from Cert.Kernel5Ideal.Gen.run_main m g
    · exact hc.1 16
    · exact hc.1 17
    · exact hc.1 18
    all_goals
      simp only [List.flatten_cons, List.flatten_nil, List.append_nil, List.cons_append, List.nil_append,
        Cert.Kernel5Ideal.Gen.hostOps0, Cert.Kernel5Ideal.Gen.hostOps0_1, Cert.Kernel5Ideal.Gen.hostOps0_2,
        Cert.Kernel5Ideal.Gen.hostOps0_3, Cert.Kernel5Ideal.Gen.hostOps0_4, Cert.Kernel5Ideal.Gen.hostOps0_5,
        Cert.Kernel5Ideal.Gen.hostOps0_6, Cert.Kernel5Ideal.Gen.hostOps0_7, Cert.Kernel5Ideal.Gen.hostOps0_8,
        StableHlo.TRef.binary, StableHlo.TRef.ternary, StableHlo.TRef.unary]
      after_results_simp <;> rfl
  · run_from Cert.Reference5Ideal.Value.run m' g'
    all_goals obtain ⟨h0, h1, h2, h3, h4⟩ := hagree c
    · exact (attQuery_match m c).trans (final11 m c).symm
    · exact (attKey_match m c).trans (final12 m c).symm
    · exact (attValue_match m c).trans (final13 m c).symm
    · exact (Cert.Reference5Ideal.Proj.query_eq m' c).trans
        ((congrArg Cert.Reference5Ideal.Proj.queryTerm (convolvedOf_match h0 h1 h2)).trans
          ((query_match m c hpre).trans (final14 m c).symm))
    · exact (Cert.Reference5Ideal.Proj.key_eq m' c).trans
        ((congrArg Cert.Reference5Ideal.Proj.keyTerm (convolvedOf_match h0 h1 h2)).trans
          ((key_match m c hpre).trans (final15 m c).symm))
    · exact (Cert.Reference5Ideal.Proj.value_eq m' c).trans
        ((congrArg Cert.Reference5Ideal.Proj.valueTerm (convolvedOf_match h0 h1 h2)).trans
          ((value_match m c).trans (final16 m c).symm))
    · exact (gateArg_match m c).trans (final17 m c).symm
    · rw [Cert.Reference5Ideal.Proj.gates_eq, prodOf_match h0 h1, h3, h4]
      exact (gates_match m c).trans (final18 m c).symm

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel5.Frame
public import proofs.«01_k».proof.Proof.Gen.Kernel5Ideal.Frame
public import proofs.«01_k».proof.Proof.Gen.Reference5Ideal.Run
public import proofs.«01_k».proof.Proof.Equations
public import proofs.«01_k».proof.Proof.ProjMatch
public import Idealize.ShloMosaic.Adequacy
public import Idealize.ShloMosaic.Init

@[expose] public section

noncomputable section

/-! The claims, one after the other: every program terminates without a fault, leaves its arguments as they were and
    ends quiescent; each idealized kernel is its kernel's; and the equations of `Proof.Equations` and `Proof.ProjMatch`. -/

namespace Cert.Proof

open Idealize.ShloMosaic Idealize.SL.Sem

/-- The attention reference terminates, leaves its arguments as they were, and declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The feed-forward reference terminates, leaves its arguments as they were, and declares no semaphore. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The mixing reference terminates, leaves its arguments as they were, and declares no semaphore. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The feed-forward reference over the shorter array terminates, leaves its arguments as they were, and declares no
    semaphore. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The projection reference terminates, leaves its arguments as they were, and declares no semaphore. -/
theorem frame_reference5 : Cert.quiescent_Reference5Ideal := fun m g _ =>
  (θ_run Cert.Reference5Ideal.defs _ _).mono
    (fun r h => ⟨fun c => (h c).2.2.2.2.2.2.2.2, sem_eq_zero_of_no_sems (by decide) r.2⟩)
    (Cert.Reference5Ideal.Value.run m g)

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.KernelIdeal.Attn.preFacts, Cert.Kernel3Ideal.Mix.preFacts, Cert.Kernel5Ideal.Proj.preFacts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.Kernel2.Gen.frame m g,
    fun m g _ => Cert.Kernel2Ideal.Gen.frame m g,
    frame_reference2,
    fun m g _ => Cert.Kernel3.Gen.frame m g,
    fun m g _ => Cert.Kernel3Ideal.Gen.frame m g,
    fun m g _ => Cert.Kernel3Ideal.Gen.frame m g,
    frame_reference3,
    fun m g _ => frame_reference3 m g trivial,
    fun m g _ => Cert.Kernel4.Gen.frame m g,
    fun m g _ => Cert.Kernel4Ideal.Gen.frame m g,
    frame_reference4,
    fun m g _ => Cert.Kernel5.Gen.frame m g,
    fun m g _ => Cert.Kernel5Ideal.Gen.frame m g,
    fun m g _ => Cert.Kernel5Ideal.Gen.frame m g,
    frame_reference5,
    fun m g _ => frame_reference5 m g trivial,
    IdealRules.named_const.statement _ _ _ _ _ rfl, algebraic, trivial, algebraic2, trivial, algebraic3, trivial, algebraic4, trivial,
    algebraic5⟩

end Cert.Proof

end
